-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x3584 : Shape := ⟨3, ![192, 1, 3584]⟩
abbrev S3584x3584 : Shape := ⟨2, ![3584, 3584]⟩
abbrev S3584 : Shape := ⟨1, ![3584]⟩
abbrev S24x8x3584 : Shape := ⟨3, ![24, 8, 3584]⟩
abbrev S28x128 : Shape := ⟨2, ![28, 128]⟩
abbrev S1x192 : Shape := ⟨2, ![1, 192]⟩
abbrev S192x1792 : Shape := ⟨2, ![192, 1792]⟩
abbrev S192x3584 : Shape := ⟨2, ![192, 3584]⟩
abbrev S_ : Shape := ⟨0, ![]⟩
abbrev S4x2 : Shape := ⟨2, ![4, 2]⟩
abbrev S1x1 : Shape := ⟨2, ![1, 1]⟩
abbrev S3584x512 : Shape := ⟨2, ![3584, 512]⟩
abbrev S3584x256 : Shape := ⟨2, ![3584, 256]⟩
abbrev S192 : Shape := ⟨1, ![192]⟩
abbrev S192x1 : Shape := ⟨2, ![192, 1]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S64x1 : Shape := ⟨2, ![64, 1]⟩
abbrev S64x128 : Shape := ⟨2, ![64, 128]⟩
abbrev S1x64 : Shape := ⟨2, ![1, 64]⟩
abbrev S192x128 : Shape := ⟨2, ![192, 128]⟩
abbrev S3584x128 : Shape := ⟨2, ![3584, 128]⟩
abbrev S192x256 : Shape := ⟨2, ![192, 256]⟩

abbrev nBuf : Space → Nat
  | .hbm => 9
  | .vmem => 8
  | .smem => 0
  | _ => 0

abbrev bufTy : (tb : Table) → Fin (tcTables nBuf tb) → BufTy
  | .hbm, ⟨0, _⟩ => ⟨S192x1x3584, .bf16⟩
  | .hbm, ⟨1, _⟩ => ⟨S3584x3584, .fp8e4m3⟩
  | .hbm, ⟨2, _⟩ => ⟨S3584, .f32⟩
  | .hbm, ⟨3, _⟩ => ⟨S24x8x3584, .bf16⟩
  | .hbm, ⟨4, _⟩ => ⟨S28x128, .f32⟩
  | .hbm, ⟨5, _⟩ => ⟨S1x192, .f32⟩
  | .hbm, ⟨6, _⟩ => ⟨S192x1792, .fp8e4m3⟩
  | .hbm, ⟨7, _⟩ => ⟨S192x3584, .fp8e4m3⟩
  | .hbm, ⟨8, _⟩ => ⟨S1x192, .f32⟩
  | .local _ .vmem, ⟨0, _⟩ => ⟨S1x192, .f32⟩
  | .local _ .vmem, ⟨1, _⟩ => ⟨S192x1792, .fp8e4m3⟩
  | .local _ .vmem, ⟨2, _⟩ => ⟨S192x3584, .fp8e4m3⟩
  | .local _ .vmem, ⟨3, _⟩ => ⟨S1x192, .f32⟩
  | .local _ .vmem, ⟨4, _⟩ => ⟨S24x8x3584, .bf16⟩
  | .local _ .vmem, ⟨5, _⟩ => ⟨S3584x3584, .fp8e4m3⟩
  | .local _ .vmem, ⟨6, _⟩ => ⟨S28x128, .f32⟩
  | .local _ .vmem, ⟨7, _⟩ => ⟨S192x1792, .f32⟩
  | _, _ => ⟨S192x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S192x1x3584 : Shape := ⟨3, ![192, 1, 3584]⟩
abbrev S3584x3584 : Shape := ⟨2, ![3584, 3584]⟩
abbrev S3584 : Shape := ⟨1, ![3584]⟩
abbrev S192x3584 : Shape := ⟨2, ![192, 3584]⟩
abbrev S1x3584 : Shape := ⟨2, ![1, 3584]⟩
abbrev S1x192 : Shape := ⟨2, ![1, 192]⟩
abbrev S192x1792 : Shape := ⟨2, ![192, 1792]⟩
abbrev S192 : Shape := ⟨1, ![192]⟩
abbrev S192x1 : Shape := ⟨2, ![192, 1]⟩
abbrev S1x254 : Shape := ⟨2, ![1, 254]⟩
abbrev S192x254 : Shape := ⟨2, ![192, 254]⟩

abbrev nBuf : Space → Nat
  | .hbm => 9
  | .vmem => 7
  | .smem => 0
  | _ => 0

abbrev bufTy : (tb : Table) → Fin (tcTables nBuf tb) → BufTy
  | .hbm, ⟨0, _⟩ => ⟨S192x1x3584, .bf16⟩
  | .hbm, ⟨1, _⟩ => ⟨S3584x3584, .fp8e4m3⟩
  | .hbm, ⟨2, _⟩ => ⟨S3584, .f32⟩
  | .hbm, ⟨3, _⟩ => ⟨S192x3584, .bf16⟩
  | .hbm, ⟨4, _⟩ => ⟨S1x3584, .f32⟩
  | .hbm, ⟨5, _⟩ => ⟨S1x192, .f32⟩
  | .hbm, ⟨6, _⟩ => ⟨S192x1792, .fp8e4m3⟩
  | .hbm, ⟨7, _⟩ => ⟨S192x3584, .fp8e4m3⟩
  | .hbm, ⟨8, _⟩ => ⟨S1x192, .f32⟩
  | .local _ .vmem, ⟨0, _⟩ => ⟨S192x3584, .bf16⟩
  | .local _ .vmem, ⟨1, _⟩ => ⟨S3584x3584, .fp8e4m3⟩
  | .local _ .vmem, ⟨2, _⟩ => ⟨S1x3584, .f32⟩
  | .local _ .vmem, ⟨3, _⟩ => ⟨S1x192, .f32⟩
  | .local _ .vmem, ⟨4, _⟩ => ⟨S192x1792, .fp8e4m3⟩
  | .local _ .vmem, ⟨5, _⟩ => ⟨S192x3584, .fp8e4m3⟩
  | .local _ .vmem, ⟨6, _⟩ => ⟨S1x192, .f32⟩
  | _, _ => ⟨S192x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/- Hand-written, untrusted: THE EXPONENT, BOTH WAYS. The kernel finds the exponent field of a nonnegative float by eight
   halvings of 0 .. 255 and assembles powers of two from their bits; the reference finds it as the one lane of 254 whose
   binade holds the float, and raises two to a power. Both are the same integer (`kE_eq`, `rE_eq`) and both powers are the
   same number (`kScale_ofInt`, `ldx_int`), so the scales agree (`scale_eq`) and so do their inverses (`inv_eq`). -/
module

public import Idealize.ShloMosaic.PureOps.Ideal.Laws
public import Idealize.ShloMosaic.Lib.IdealHost

@[expose] public section

noncomputable section

namespace Cert.Proof

open Idealize.ShloMosaic

/-! ## Powers of two by their exponent field -/

/-- The float whose exponent field is `k` and whose other bits are zero. -/
def thr (k : ℕ) : EReal := if k = 0 then 0 else if 255 ≤ k then ⊤ else (((2 : ℝ) ^ ((k : ℤ) - 127) : ℝ) : EReal)

/-- What the word of exponent field `k` reads as. -/
theorem field_bits : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem ofBits_field (k : ℕ) (hk : k ≤ 255) : Ideal.ofBits .f32 (IntOp.shli .vector (BitVec.ofNat 32 k) 23#32) = thr k := by
  obtain ⟨h1, h2, h3⟩ := field_bits ⟨k, by omega⟩
  simp only at h1 h2 h3
  generalize IntOp.shli .vector (BitVec.ofNat 32 k) 23#32 = w at h1 h2 h3 ⊢
  show Ideal.ieee 8 23 w = _
  unfold Ideal.ieee thr
  simp only [Nat.reduceAdd, h1, h2, h3]
  by_cases h0 : k = 0
  · subst h0; simp
  · by_cases h255 : k = 255
    · subst h255; simp
    · have : ¬ 255 ≤ k := by omega
      rw [if_neg (by omega), if_neg h0, if_neg h0, if_neg this]
      congr 1
      norm_num
      rw [show ((k : ℤ) - 127) = 23 + ((k : ℤ) - 127 - 23) by ring, zpow_add₀ (by norm_num : (2 : ℝ) ≠ 0)]
      norm_num

theorem thr_lt {j k : ℕ} (h : j < k) (hk : k ≤ 255) : thr j < thr k := by
  unfold thr
  rw [if_neg (show k ≠ 0 by omega)]
  by_cases hj : j = 0
  · rw [if_pos hj]
    split
    · exact EReal.coe_lt_top 0
    · exact_mod_cast (by positivity : (0 : ℝ) < (2 : ℝ) ^ ((k : ℤ) - 127))
  · rw [if_neg hj, if_neg (by omega)]
    split
    · exact EReal.coe_lt_top _
    · rw [EReal.coe_lt_coe_iff]
      exact zpow_lt_zpow_right₀ (by norm_num) (by omega)

theorem thr_le {j k : ℕ} (h : j ≤ k) (hk : k ≤ 255) : thr j ≤ thr k := by
  rcases h.eq_or_lt with h | h
  · rw [h]
  · exact (thr_lt h hk).le

theorem thr_zero : thr 0 = 0 := rfl

/-! ## The kernel's bisection -/

/-- One halving: take the step when the float of the larger field is still at most `t`. -/
def step (t : EReal) (s k : BitVec 32) : BitVec 32 :=
  Scalar.select (FloatOps.cmpf (F := Ideal) (φ := .f32) .oge t (FloatOps.ofBits (F := Ideal) .f32 (IntOp.shli .vector (IntOp.addi k s) 23#32)))
    (IntOp.addi k s) k

/-- The eight halvings. -/
def kexp (t : EReal) : BitVec 32 :=
  step t 1#32 (step t 2#32 (step t 4#32 (step t 8#32 (step t 16#32 (step t 32#32 (step t 64#32 (step t 128#32 0#32)))))))

/-- After the halving of width `s` the field lies in an interval of width `s` above `k`. -/
def Within (t : EReal) (s : ℕ) (k : BitVec 32) : Prop :=
  k.toNat + s ≤ 256 ∧ thr k.toNat ≤ t ∧ (k.toNat + s ≤ 255 → t < thr (k.toNat + s))

theorem step_within {t : EReal} {k : BitVec 32} (s : ℕ) (hs : 1 ≤ s) (h : Within t (2 * s) k) : Within t s (step t (BitVec.ofNat 32 s) k) := by
  obtain ⟨hk, hle, hlt⟩ := h
  have hs32 : (BitVec.ofNat 32 s).toNat = s := by rw [BitVec.toNat_ofNat]; exact Nat.mod_eq_of_lt (by omega)
  have hsum : (IntOp.addi k (BitVec.ofNat 32 s)).toNat = k.toNat + s := by
    show (k + BitVec.ofNat 32 s).toNat = _
    rw [BitVec.toNat_add, hs32]; exact Nat.mod_eq_of_lt (by omega)
  have hword : IntOp.addi k (BitVec.ofNat 32 s) = BitVec.ofNat 32 (k.toNat + s) := by
    apply BitVec.eq_of_toNat_eq
    rw [hsum, BitVec.toNat_ofNat, Nat.mod_eq_of_lt (by omega)]
  have hstep : step t (BitVec.ofNat 32 s) k = if thr (k.toNat + s) ≤ t then IntOp.addi k (BitVec.ofNat 32 s) else k := by
    show Scalar.select (BitVec.ofBool (decide (Ideal.ofBits .f32 (IntOp.shli .vector (IntOp.addi k (BitVec.ofNat 32 s)) 23#32) ≤ t))) _ _ = _
    rw [hword, ofBits_field _ (by omega)]
    by_cases hc : thr (k.toNat + s) ≤ t <;> simp [Scalar.select, hc]
  rw [hstep]
  split
  case isTrue hc =>
    refine ⟨by omega, by rw [hsum]; exact hc, fun h => ?_⟩
    rw [hsum] at h ⊢
    rw [show k.toNat + s + s = k.toNat + 2 * s by ring]
    exact hlt (by omega)
  case isFalse hc => exact ⟨by omega, hle, fun _ => not_le.mp hc⟩

/-- The bisection finds the field: its power is at most `t` and the next one is larger. -/
theorem kexp_spec {t : EReal} (ht : 0 ≤ t) :
    (kexp t).toNat ≤ 255 ∧ thr (kexp t).toNat ≤ t ∧ ((kexp t).toNat ≤ 254 → t < thr ((kexp t).toNat + 1)) := by
  have h : Within t 256 0#32 := ⟨by simp, by simpa [thr] using ht, fun h => by simp at h⟩
  obtain ⟨h1, h2, h3⟩ := step_within 1 (by norm_num) (step_within 2 (by norm_num) (step_within 4 (by norm_num) (step_within 8 (by norm_num)
    (step_within 16 (by norm_num) (step_within 32 (by norm_num) (step_within 64 (by norm_num) (step_within 128 (by norm_num) h)))))))
  exact ⟨by unfold kexp; omega, h2, fun h => h3 (by unfold kexp at h; omega)⟩

/-! ## The exponent as an integer -/

/-- The exponent of `t` in the convention of a mantissa in [1/2, 1): zero for a zero, a subnormal or an infinity. -/
def eZ (a t : EReal) : ℤ := if a = 0 ∨ (kexp t).toNat = 0 ∨ (kexp t).toNat = 255 then 0 else ((kexp t).toNat : ℤ) - 126

theorem eZ_bound (a : EReal) {t : EReal} (ht : 0 ≤ t) : -128 ≤ eZ a t ∧ eZ a t ≤ 128 := by
  have := (kexp_spec ht).1
  unfold eZ; split <;> omega

/-- The kernel's exponent word. -/
def kE (a t : EReal) : BitVec 32 :=
  Scalar.select (IntOp.ori (IntOp.ori (IntOp.cmpi .eq (kexp t) 0#32) (IntOp.cmpi .eq (kexp t) 255#32))
    (FloatOps.cmpf (F := Ideal) (φ := .f32) .oeq a (Scalar.ofBits (F := Ideal) .f32 0x00000000#32))) 0#32 (IntOp.subi (kexp t) 126#32)

theorem kE_eq (a : EReal) {t : EReal} (ht : 0 ≤ t) : kE a t = BitVec.ofInt 32 (eZ a t) := by
  have hk := (kexp_spec ht).1
  have ha : FloatOps.cmpf (F := Ideal) (φ := .f32) .oeq a (Scalar.ofBits (F := Ideal) .f32 0x00000000#32) = BitVec.ofBool (decide (a = 0)) := by
    show BitVec.ofBool (decide (a = Ideal.ofBits .f32 0x00000000#32)) = _
    rw [Ideal.ofBits_zero_f32]
  unfold kE eZ
  rw [ha]
  generalize kexp t = k at hk ⊢
  have h0 : (k == 0#32) = decide (k.toNat = 0) := by
    rw [Bool.eq_iff_iff]; simp [← BitVec.toNat_inj]
  have h255 : (k == 255#32) = decide (k.toNat = 255) := by
    rw [Bool.eq_iff_iff]; simp [← BitVec.toNat_inj]
  have hsub : k - 126#32 = BitVec.ofInt 32 ((k.toNat : ℤ) - 126) := by
    rw [sub_eq_add_neg, BitVec.ofInt_add, BitVec.ofInt_natCast, BitVec.ofNat_toNat, BitVec.setWidth_eq, BitVec.sub_eq_add_neg]; rfl
  simp only [IntOp.cmpi, IntOp.subi, IntOp.ori, h0, h255, hsub]
  by_cases c1 : a = 0 <;> by_cases c2 : k.toNat = 0 <;> by_cases c3 : k.toNat = 255 <;>
    simp [Scalar.select, c1, c2, c3]

/-! ## The power of two -/

/-- Two to the power `i`, with the ranges past the normal floats sent to infinity and to zero. -/
def pow2 (i : ℤ) : EReal := if 127 < i then ⊤ else if i < -126 then 0 else (((2 : ℝ) ^ i : ℝ) : EReal)

theorem pow2_nonneg (i : ℤ) : 0 ≤ pow2 i := by
  unfold pow2
  split
  · exact le_top
  · split
    · exact le_refl _
    · exact_mod_cast (by positivity : (0 : ℝ) ≤ (2 : ℝ) ^ i)

theorem pow2_eq_thr (i : ℤ) : pow2 i = thr (min 255 (i + 127).toNat) := by
  unfold pow2 thr
  by_cases h1 : 127 < i
  · rw [if_pos h1, if_neg (by omega), if_pos (by omega)]
  · by_cases h2 : i < -126
    · rw [if_neg h1, if_pos h2, if_pos (by omega)]
    · rw [if_neg h1, if_neg h2, if_neg (by omega), if_neg (by omega)]
      rw [show (((min 255 (i + 127).toNat : ℕ) : ℤ) - 127) = i by omega]

/-- The word of the kernel's power of two. -/
def kWord (e : BitVec 32) : BitVec 32 :=
  Scalar.select (IntOp.cmpi .sle (IntOp.addi 127#32 e) 0#32) 0#32
    (Scalar.select (IntOp.cmpi .sge (IntOp.addi 127#32 e) 255#32) 2139095040#32 (IntOp.shli .vector (IntOp.addi 127#32 e) 23#32))

/-- The kernel's power of two, read from its bits. -/
def kScale (e : BitVec 32) : EReal := FloatOps.ofBits (F := Ideal) .f32 (kWord e)

theorem kWord_table : ∀ j : Fin 257, kWord (BitVec.ofInt 32 ((j.val : ℤ) - 128))
    = IntOp.shli .vector (BitVec.ofNat 32 (min 255 ((j.val : ℤ) - 128 + 127).toNat)) 23#32 := by
  decide +kernel

theorem kScale_ofInt (i : ℤ) (h : -128 ≤ i ∧ i ≤ 128) : kScale (BitVec.ofInt 32 i) = pow2 i := by
  have hj := kWord_table ⟨(i + 128).toNat, by omega⟩
  simp only at hj
  rw [show (((i + 128).toNat : ℕ) : ℤ) - 128 = i by omega] at hj
  show Ideal.ofBits .f32 (kWord _) = _
  rw [hj, ofBits_field _ (by omega), pow2_eq_thr]

/-! ## The reference's exponent and power -/

/-- The reference's power of two. -/
def ldx (e : EReal) : EReal :=
  Scalar.select (FloatOps.cmpf (F := Ideal) (φ := .f32) .ogt e (Scalar.ofBits (F := Ideal) .f32 0x42FE0000#32)) (Scalar.ofBits (F := Ideal) .f32 0x7F800000#32)
    (Scalar.select (FloatOps.cmpf (F := Ideal) (φ := .f32) .olt e (Scalar.ofBits (F := Ideal) .f32 0xC2FC0000#32)) (Scalar.ofBits (F := Ideal) .f32 0x00000000#32)
      (FloatOps.exp2 (F := Ideal) (φ := .f32) e))

theorem c127 : Ideal.ofBits .f32 0x42FE0000#32 = (((127 : ℤ) : ℝ) : EReal) := by
  simp [Ideal.ofBits, Ideal.ieee]; norm_num [← EReal.coe_mul]
theorem cm126 : Ideal.ofBits .f32 0xC2FC0000#32 = (((-126 : ℤ) : ℝ) : EReal) := by
  simp [Ideal.ofBits, Ideal.ieee]; norm_num [← EReal.coe_mul]
theorem c125 : Ideal.ofBits .f32 0x42FA0000#32 = (((125 : ℤ) : ℝ) : EReal) := by
  simp [Ideal.ofBits, Ideal.ieee]; norm_num [← EReal.coe_mul]
theorem cinf : Ideal.ofBits .f32 0x7F800000#32 = ⊤ := by
  simp [Ideal.ofBits, Ideal.ieee]
theorem cninf : Ideal.ofBits .f32 0xFF800000#32 = ⊥ := by
  simp [Ideal.ofBits, Ideal.ieee]

theorem ldx_int (i : ℤ) : ldx (((i : ℤ) : ℝ) : EReal) = pow2 i := by
  show Scalar.select (BitVec.ofBool (decide (Ideal.ofBits .f32 0x42FE0000#32 < ((i : ℝ) : EReal)))) (Ideal.ofBits .f32 0x7F800000#32)
    (Scalar.select (BitVec.ofBool (decide (((i : ℝ) : EReal) < Ideal.ofBits .f32 0xC2FC0000#32))) (Ideal.ofBits .f32 0x00000000#32)
      (Ideal.exp2 ((i : ℝ) : EReal))) = _
  rw [c127, cm126, cinf, Ideal.ofBits_zero_f32]
  have e1 : Ideal.exp2 ((i : ℝ) : EReal) = (((2 : ℝ) ^ i : ℝ) : EReal) := by
    show ((Real.rpow 2 (i : ℝ) : ℝ) : EReal) = _
    congr 1
    exact Real.rpow_intCast 2 i
  rw [e1]
  simp only [EReal.coe_lt_coe_iff, Int.cast_lt]
  unfold pow2
  by_cases h1 : 127 < i <;> by_cases h2 : i < -126 <;> simp [Scalar.select, h1, h2]

/-- Lane `k` of the reference's search stands for the exponent `k - 125`. -/
def lane (k : BitVec 32) : EReal :=
  FloatOps.subf (F := Ideal) (φ := .f32) (FloatOps.sitofp (F := Ideal) .f32 k) (Scalar.ofBits (F := Ideal) .f32 0x42FA0000#32)

theorem lane_toInt : ∀ k : Fin 254, (BitVec.ofNat 32 k.val).toInt = (k.val : ℤ) := by decide +kernel

theorem lane_eq (k : Fin 254) : lane (BitVec.ofNat 32 k.val) = ((((k.val : ℤ) - 125 : ℤ) : ℝ) : EReal) := by
  show (((BitVec.ofNat 32 k.val).toInt : ℝ) : EReal) - Ideal.ofBits .f32 0x42FA0000#32 = _
  rw [c125, lane_toInt]
  rw [← EReal.coe_sub]
  push_cast
  rfl

/-- What one lane of the search contributes. -/
def hot (t : EReal) (k : BitVec 32) : EReal :=
  Scalar.select (IntOp.andi
      (FloatOps.cmpf (F := Ideal) (φ := .f32) .ole (ldx (FloatOps.subf (F := Ideal) (φ := .f32) (lane k) (Scalar.ofBits (F := Ideal) .f32 0x3F800000#32))) t)
      (FloatOps.cmpf (F := Ideal) (φ := .f32) .olt t (ldx (lane k))))
    (lane k) (Scalar.ofBits (F := Ideal) .f32 0x00000000#32)

theorem hot_eq (t : EReal) (k : Fin 254) : hot t (BitVec.ofNat 32 k.val)
    = if thr (k.val + 1) ≤ t ∧ t < thr (k.val + 2) then ((((k.val : ℤ) - 125 : ℤ) : ℝ) : EReal) else 0 := by
  have hk := k.isLt
  have h1 : ldx (FloatOps.subf (F := Ideal) (φ := .f32) (lane (BitVec.ofNat 32 k.val)) (Scalar.ofBits (F := Ideal) .f32 0x3F800000#32)) = thr (k.val + 1) := by
    rw [lane_eq]
    show ldx (_ - Ideal.ofBits .f32 0x3F800000#32) = _
    rw [Ideal.ofBits_one_f32, show ((((k.val : ℤ) - 125 : ℤ) : ℝ) : EReal) - 1 = ((((k.val : ℤ) - 126 : ℤ) : ℝ) : EReal) by
      rw [← EReal.coe_one, ← EReal.coe_sub]; congr 1; push_cast; ring]
    rw [ldx_int, pow2_eq_thr]; congr 1; omega
  have h2 : ldx (lane (BitVec.ofNat 32 k.val)) = thr (k.val + 2) := by
    rw [lane_eq, ldx_int, pow2_eq_thr]; congr 1; omega
  unfold hot
  rw [h1, h2, lane_eq]
  show Scalar.select (IntOp.andi (BitVec.ofBool (decide (thr (k.val + 1) ≤ t))) (BitVec.ofBool (decide (t < thr (k.val + 2))))) _ (Ideal.ofBits .f32 0x00000000#32) = _
  rw [Ideal.ofBits_zero_f32]
  by_cases c1 : thr (k.val + 1) ≤ t <;> by_cases c2 : t < thr (k.val + 2) <;> simp [Scalar.select, IntOp.andi, c1, c2]

/-- The sum over the lanes. -/
def oneHot (t : EReal) : EReal := ∑ k : Fin 254, hot t (BitVec.ofNat 32 k.val)

theorem oneHot_eq {t : EReal} (ht : 0 ≤ t) :
    oneHot t = (((if (kexp t).toNat = 0 ∨ (kexp t).toNat = 255 then 0 else ((kexp t).toNat : ℤ) - 126 : ℤ) : ℝ) : EReal) := by
  obtain ⟨hk, hle, hlt⟩ := kexp_spec ht
  unfold oneHot
  simp only [hot_eq]
  generalize (kexp t).toNat = n at hk hle hlt
  -- a lane that holds `t` is the lane of the field
  have hone : ∀ k : Fin 254, thr (k.val + 1) ≤ t ∧ t < thr (k.val + 2) → k.val + 1 = n := by
    rintro k ⟨a, b⟩
    have := k.isLt
    by_contra hne
    rcases Nat.lt_or_gt_of_ne hne with h | h
    · exact absurd (b.trans_le (thr_le (by omega : k.val + 2 ≤ n) hk)) (not_lt.mpr hle)
    · exact absurd ((hlt (by omega)).trans_le (thr_le (by omega : n + 1 ≤ k.val + 1) (by omega))) (not_lt.mpr a)
  split
  case isTrue h =>
    rw [Finset.sum_eq_zero]
    · simp
    · intro k _
      rw [if_neg fun hc => ?_]
      have := hone k hc; have := k.isLt; omega
  case isFalse h =>
    rw [Finset.sum_eq_single (⟨n - 1, by omega⟩ : Fin 254)]
    · rw [if_pos]
      · rw [show (((⟨n - 1, by omega⟩ : Fin 254).val : ℕ) : ℤ) - 125 = (n : ℤ) - 126 by simp only; omega]
      · simp only
        rw [show n - 1 + 1 = n by omega, show n - 1 + 2 = n + 1 by omega]
        exact ⟨hle, hlt (by omega)⟩
    · intro k _ hne
      rw [if_neg fun hc => hne (Fin.ext ?_)]
      have := hone k hc
      show k.val = n - 1
      omega
    · intro hno; exact absurd (Finset.mem_univ _) hno

/-- The reference's exponent. -/
def rE (a t : EReal) : EReal :=
  Scalar.select (FloatOps.cmpf (F := Ideal) (φ := .f32) .oeq a (Scalar.ofBits (F := Ideal) .f32 0x00000000#32)) (Scalar.ofBits (F := Ideal) .f32 0x00000000#32) (oneHot t)

theorem rE_eq (a : EReal) {t : EReal} (ht : 0 ≤ t) : rE a t = (((eZ a t : ℤ) : ℝ) : EReal) := by
  unfold rE
  show Scalar.select (BitVec.ofBool (decide (a = Ideal.ofBits .f32 0x00000000#32))) (Ideal.ofBits .f32 0x00000000#32) _ = _
  rw [Ideal.ofBits_zero_f32, oneHot_eq ht]
  unfold eZ
  by_cases c : a = 0 <;> simp [Scalar.select, c]

/-! ## The two agree -/

theorem kScale_kE (a : EReal) {t : EReal} (ht : 0 ≤ t) : kScale (kE a t) = pow2 (eZ a t) := by
  rw [kE_eq a ht, kScale_ofInt _ (eZ_bound a ht)]

/-- The kernel's scale is the reference's. -/
theorem scale_eq (a : EReal) {t : EReal} (ht : 0 ≤ t) : kScale (kE a t) = ldx (rE a t) := by
  rw [kScale_kE a ht, rE_eq a ht, ldx_int]

/-- The kernel's inverse scale is the reference's. -/
theorem inv_eq (a : EReal) {t : EReal} (ht : 0 ≤ t) :
    kScale (IntOp.subi 0#32 (kE a t)) = ldx (FloatOps.subf (F := Ideal) (φ := .f32) (Scalar.ofBits (F := Ideal) .f32 0x00000000#32) (rE a t)) := by
  have hb := eZ_bound a ht
  have hl : IntOp.subi 0#32 (BitVec.ofInt 32 (eZ a t)) = BitVec.ofInt 32 (- eZ a t) := by
    show 0#32 - BitVec.ofInt 32 _ = _
    rw [BitVec.ofInt_neg, BitVec.zero_sub]
  have hr : FloatOps.subf (F := Ideal) (φ := .f32) (Scalar.ofBits (F := Ideal) .f32 0x00000000#32) (((eZ a t : ℤ) : ℝ) : EReal) = (((- eZ a t : ℤ) : ℝ) : EReal) := by
    show Ideal.ofBits .f32 0x00000000#32 - (((eZ a t : ℤ) : ℝ) : EReal) = _
    rw [Ideal.ofBits_zero_f32, zero_sub, ← EReal.coe_neg]; push_cast; rfl
  rw [kE_eq a ht, rE_eq a ht, hl, hr, ldx_int, kScale_ofInt _ ⟨by omega, by omega⟩]

theorem scale_nonneg (a : EReal) {t : EReal} (ht : 0 ≤ t) : 0 ≤ kScale (kE a t) := by
  rw [kScale_kE a ht]; exact pow2_nonneg _

/-- The factor the largest magnitude is divided through by: 1/448, rounded. -/
theorem c448_nonneg : 0 ≤ Ideal.ofBits .f32 0x3B124925#32 := by
  simp [Ideal.ofBits, Ideal.ieee]
  norm_cast
  positivity

end Cert.Proof
-- ==== Proof.Spec.lean ====
/- Hand-written, untrusted: THE MATHEMATICS BOTH PROGRAMS COMPUTE, on plain functions of row and column. A row is scaled by
   a power of two taken from its largest magnitude and clamped (`codeS`, `scaleS`); the codes are multiplied into the
   weights and scaled back (`yS`); the gate's half passes through silu and multiplies the other half (`hS`); the result is
   quantised the same way. -/
module

public import proofs.«01_k».proof.Proof.Exponent

@[expose] public section

noncomputable section

namespace Cert.Proof

open Idealize.ShloMosaic

/-- The largest magnitude of a row. -/
def amaxS {n : ℕ} (f : Fin n → EReal) : EReal :=
  Finset.univ.fold max (Ideal.ofBits .f32 0xFF800000#32) fun k => FloatOps.absf (F := Ideal) (φ := .f32) (f k)

/-- A largest magnitude over the largest code. -/
def tS (a : EReal) : EReal := a * Ideal.ofBits .f32 0x3B124925#32

/-- The exponent of a row of largest magnitude `a`. -/
def expS (a : EReal) : EReal := rE a (tS a)

/-- The scale of a row of largest magnitude `a`. -/
def scaleS (a : EReal) : EReal := ldx (expS a)

/-- What a row of largest magnitude `a` is multiplied by. -/
def invS (a : EReal) : EReal := ldx (0 - expS a)

/-- A value clamped to the codes' range. -/
def clampS (v : EReal) : EReal := min (Ideal.ofBits .f32 0x43E00000#32) (max (Ideal.ofBits .f32 0xC3E00000#32) v)

/-- The code of `v` in a row of largest magnitude `a`. -/
def codeS (a v : EReal) : EReal := clampS (v * invS a)

section
variable (x : Fin 192 → Fin 3584 → EReal) (w : Fin 3584 → Fin 3584 → EReal) (s : Fin 3584 → EReal)

/-- The codes of `x`. -/
def xcS (r : Fin 192) (k : Fin 3584) : EReal := codeS (amaxS (x r)) (x r k)

/-- The product of codes and weights, scaled back. -/
def yS (r : Fin 192) (l : Fin 3584) : EReal := (∑ k, xcS x r k * w k l) * scaleS (amaxS (x r)) * s l

/-- The gated value. -/
def gateS (a b : EReal) : EReal := a * Ideal.logistic a * b

/-- The gated product. -/
def hS (r : Fin 192) (j : Fin 1792) : EReal := gateS (yS x w s r ⟨j.val, by omega⟩) (yS x w s r ⟨1792 + j.val, by omega⟩)

end

theorem absf_eq (v : EReal) : FloatOps.absf (F := Ideal) (φ := .f32) v = max v (-v) := rfl

theorem absf_nonneg (v : EReal) : 0 ≤ FloatOps.absf (F := Ideal) (φ := .f32) v := by
  rw [absf_eq]
  rcases le_total 0 v with h | h
  · exact le_max_of_le_left h
  · exact le_max_of_le_right (by simpa using EReal.neg_le_neg_iff.mpr h)

/-- The largest magnitude is at most `c` just when every magnitude is (an empty row aside). -/
theorem amaxS_le_iff {n : ℕ} (f : Fin n → EReal) (c : EReal) : amaxS f ≤ c ↔ ∀ k, FloatOps.absf (F := Ideal) (φ := .f32) (f k) ≤ c := by
  unfold amaxS
  rw [Finset.fold_max_le, cninf]
  simp

theorem amaxS_nonneg {n : ℕ} [NeZero n] (f : Fin n → EReal) : 0 ≤ amaxS f :=
  (absf_nonneg (f 0)).trans ((amaxS_le_iff f _).mp le_rfl 0)

theorem tS_nonneg {a : EReal} (h : 0 ≤ a) : 0 ≤ tS a := mul_nonneg h c448_nonneg

/-- The kernel's scale of a row. -/
theorem scaleK {a : EReal} (h : 0 ≤ a) : kScale (kE a (tS a)) = scaleS a := scale_eq a (tS_nonneg h)

/-- The kernel's inverse scale of a row. -/
theorem invK {a : EReal} (h : 0 ≤ a) : kScale (IntOp.subi 0#32 (kE a (tS a))) = invS a := by
  rw [inv_eq a (tS_nonneg h)]
  show ldx (Ideal.ofBits .f32 0x00000000#32 - _) = _
  rw [Ideal.ofBits_zero_f32]; rfl

theorem scaleS_nonneg {a : EReal} (h : 0 ≤ a) : 0 ≤ scaleS a := by
  rw [← scaleK h]; exact scale_nonneg a (tS_nonneg h)

/-- The reference's power of two, as cases. -/
theorem ldx_cases (e : EReal) : ldx e = if Ideal.ofBits .f32 0x42FE0000#32 < e then Ideal.ofBits .f32 0x7F800000#32
    else if e < Ideal.ofBits .f32 0xC2FC0000#32 then 0 else FloatOps.exp2 (F := Ideal) (φ := .f32) e := by
  show Scalar.select (BitVec.ofBool (decide (Ideal.ofBits .f32 0x42FE0000#32 < e))) (Ideal.ofBits .f32 0x7F800000#32)
    (Scalar.select (BitVec.ofBool (decide (e < Ideal.ofBits .f32 0xC2FC0000#32))) (Ideal.ofBits .f32 0x00000000#32) _) = _
  rw [Ideal.ofBits_zero_f32]
  by_cases h1 : Ideal.ofBits .f32 0x42FE0000#32 < e <;> by_cases h2 : e < Ideal.ofBits .f32 0xC2FC0000#32 <;>
    simp [Scalar.select, h1, h2]

/-- The reference's exponent, as cases. -/
theorem rE_cases (a t : EReal) : rE a t = if a = 0 then 0 else oneHot t := by
  show Scalar.select (BitVec.ofBool (decide (a = Ideal.ofBits .f32 0x00000000#32))) (Ideal.ofBits .f32 0x00000000#32) _ = _
  rw [Ideal.ofBits_zero_f32]
  by_cases h : a = 0 <;> simp [Scalar.select, h]

/-- A lane of the search, as cases. -/
theorem hot_cases (t : EReal) (k : BitVec 32) : hot t k =
    Scalar.select (IntOp.andi (BitVec.ofBool (decide (ldx (FloatOps.sitofp (F := Ideal) .f32 k - Ideal.ofBits .f32 0x42FA0000#32 - 1) ≤ t)))
      (BitVec.ofBool (decide (t < ldx (FloatOps.sitofp (F := Ideal) .f32 k - Ideal.ofBits .f32 0x42FA0000#32)))))
      (FloatOps.sitofp (F := Ideal) .f32 k - Ideal.ofBits .f32 0x42FA0000#32) 0 := by
  show Scalar.select (IntOp.andi (BitVec.ofBool (decide (ldx (FloatOps.sitofp (F := Ideal) .f32 k - Ideal.ofBits .f32 0x42FA0000#32 - Ideal.ofBits .f32 0x3F800000#32) ≤ t)))
      (BitVec.ofBool (decide (t < ldx (FloatOps.sitofp (F := Ideal) .f32 k - Ideal.ofBits .f32 0x42FA0000#32)))))
      (FloatOps.sitofp (F := Ideal) .f32 k - Ideal.ofBits .f32 0x42FA0000#32) (Ideal.ofBits .f32 0x00000000#32) = _
  rw [Ideal.ofBits_one_f32, Ideal.ofBits_zero_f32]

/-- The largest of a diagonal's column, zero off the diagonal, is the entry on it. -/
theorem diag_max {n : ℕ} (f : Fin n → EReal) (l : Fin n) (hn : n ≤ 256) (h : 0 ≤ f l) :
    (Finset.univ.fold max (Ideal.ofBits .f32 0xFF800000#32) fun k : Fin n =>
      Scalar.select (IntOp.cmpi .eq (BitVec.ofNat 32 k.val) (BitVec.ofNat 32 l.val)) (f k) 0) = f l := by
  have hsel : ∀ k : Fin n, Scalar.select (IntOp.cmpi .eq (BitVec.ofNat 32 k.val) (BitVec.ofNat 32 l.val)) (f k) 0 = if k = l then f k else 0 := by
    intro k
    have hb : (BitVec.ofNat 32 k.val == BitVec.ofNat 32 l.val) = decide (k = l) := by
      have := k.isLt; have := l.isLt
      rw [Bool.eq_iff_iff]
      simp only [beq_iff_eq, decide_eq_true_eq, ← BitVec.toNat_inj, BitVec.toNat_ofNat]
      rw [Nat.mod_eq_of_lt (by omega), Nat.mod_eq_of_lt (by omega), Fin.ext_iff]
    unfold IntOp.cmpi
    simp only [hb]
    by_cases c : k = l <;> simp [Scalar.select, c]
  simp only [hsel]
  apply le_antisymm
  · rw [Finset.fold_max_le, cninf]
    refine ⟨bot_le, fun k _ => ?_⟩
    split
    · rename_i c; rw [c]
    · exact h
  · rw [Finset.le_fold_max]
    exact Or.inr ⟨l, Finset.mem_univ _, by simp⟩

end Cert.Proof
-- ==== Proof.KernelRead.lean ====
/- Hand-written, untrusted: WHAT THE KERNEL'S LOADS READ: its scratch buffers hold what the transfers brought, so a load of
   128 columns of the weights reads those columns of the argument array, whichever of the eight transfers brought them. -/
module

public import proofs.«01_k».proof.Proof.Gen.KernelIdeal.Frame
public import proofs.«01_k».proof.Proof.Spec
public import Idealize.ShloMosaic.Lib.Pointwise
public import Idealize.ShloMosaic.Lib.Pipeline.Value

@[expose] public section

set_option maxRecDepth 65536

noncomputable section

namespace Cert.Proof.Ker

open Cert.KernelIdeal Cert.KernelIdeal.Gen Cert.Proof
open Idealize.ShloMosaic Idealize.SL.Sem Idealize.ShloMosaic.Pointwise

theorem zero2 : (![0, 0] : Fin 2 → ℕ) = fun _ => 0 := by funext a; fin_cases a <;> rfl
theorem zero3 : (![0, 0, 0] : Fin 3 → ℕ) = fun _ => 0 := by funext a; fin_cases a <;> rfl

section
variable (c : Dev nD)

/-- The activations, brought whole. -/
theorem load_x (arg7 : Memref sig .tc .vmem S24x8x3584 .bf16) (f : HbBuf0 (F := Ideal) c hbM0_0) :
    kernelRun0_A.sl.v32 c arg7 f = (f : Vec Ideal S24x8x3584 .bf16) := by
  have h : kernelRun0_A.sl.v32 c arg7 f = fun j => View.canon [⟨Rect.whole S24x8x3584, (f : Vec Ideal S24x8x3584 .bf16)⟩]
      ((Rect.unit ![0, 0, 0] S24x8x3584.size inb_S24x8x3584_S24x8x3584_0_0_0).toLoadRect.idx j) :=
    View.readCov_eq_canon' arg7.view [⟨Rect.whole S24x8x3584, (f : Vec Ideal S24x8x3584 .bf16)⟩] _
  rw [h]
  funext j
  rw [View.canon_apply_of_pieces (f : Vec Ideal S24x8x3584 .bf16) [⟨Rect.whole S24x8x3584, (f : Vec Ideal S24x8x3584 .bf16)⟩]
    (fun p hp x => by rw [List.mem_singleton] at hp; subst hp; show f x = f ((Rect.whole S24x8x3584).emb x); rw [Rect.emb_whole_apply]) _
    ⟨_, List.mem_singleton_self _, by show _ ∈ (Rect.whole _).set; rw [Rect.set_whole]; exact Finset.mem_univ _⟩]
  refine congrArg (f : Vec Ideal S24x8x3584 .bf16) (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- A row of the weights' scales. -/
theorem load_s (arg9 : Memref sig .tc .vmem S28x128 .f32) (f : HbBuf0 (F := Ideal) c hbM0_2) (i : Fin 28) (inb : ∀ a, (![i.val, 0] : Fin 2 → ℕ) a + S1x128.size a ≤ S28x128.size a)
    (l : Fin 128) :
    arg9.view.readCov [⟨Rect.whole S28x128, kernelRun0_A.sl.dma0_1 c f⟩] (Rect.unit (s := S28x128) ![i.val, 0] S1x128.size inb).toLoadRect (ix2 0 l)
      = (f : Vec Ideal S28x128 .f32) (ix2 i l) := by
  rw [View.readCov_eq_canon']
  show View.canon [⟨Rect.whole S28x128, (f : Vec Ideal S28x128 .f32)⟩] _ = _
  rw [View.canon_apply_of_pieces (f : Vec Ideal S28x128 .f32) [⟨Rect.whole S28x128, (f : Vec Ideal S28x128 .f32)⟩]
    (fun p hp x => by rw [List.mem_singleton] at hp; subst hp; show f x = f ((Rect.whole S28x128).emb x); rw [Rect.emb_whole_apply]) _
    ⟨_, List.mem_singleton_self _, by show _ ∈ (Rect.whole _).set; rw [Rect.set_whole]; exact Finset.mem_univ _⟩]
  refine congrArg (f : Vec Ideal S28x128 .f32) (funext fun a => Fin.ext ?_)
  match a with
  | ⟨0, _⟩ => show i.val + 1 * 0 = i.val; omega
  | ⟨1, _⟩ => show 0 + 1 * l.val = l.val; omega

/-- The weights as the eight transfers bring them, the last first. -/
def wparts (f : HbBuf0 (F := Ideal) c hbM0_1) : List (View.Piece (Elt Ideal) S3584x3584 .fp8e4m3) :=
  [⟨Rect.unit ![0, 3328] S3584x256.size inb_S3584x3584_S3584x256_0_3328, kernelRun0_A.sl.dma0_9 c f⟩,
   ⟨Rect.unit ![0, 1536] S3584x256.size inb_S3584x3584_S3584x256_0_1536, kernelRun0_A.sl.dma0_8 c f⟩,
   ⟨Rect.unit ![0, 2816] S3584x512.size inb_S3584x3584_S3584x512_0_2816, kernelRun0_A.sl.dma0_7 c f⟩,
   ⟨Rect.unit ![0, 1024] S3584x512.size inb_S3584x3584_S3584x512_0_1024, kernelRun0_A.sl.dma0_6 c f⟩,
   ⟨Rect.unit ![0, 2304] S3584x512.size inb_S3584x3584_S3584x512_0_2304, kernelRun0_A.sl.dma0_5 c f⟩,
   ⟨Rect.unit ![0, 512] S3584x512.size inb_S3584x3584_S3584x512_0_512, kernelRun0_A.sl.dma0_4 c f⟩,
   ⟨Rect.unit ![0, 1792] S3584x512.size inb_S3584x3584_S3584x512_0_1792, kernelRun0_A.sl.dma0_3 c f⟩,
   ⟨Rect.unit ![0, 0] S3584x512.size inb_S3584x3584_S3584x512_0_0, kernelRun0_A.sl.dma0_2 c f⟩]

/-- Every part is the array's own columns, and the parts leave no column out. -/
theorem canon_wparts (f : HbBuf0 (F := Ideal) c hbM0_1) (y : S3584x3584.Idx) : View.canon (wparts c f) y = (f : Vec Ideal S3584x3584 .fp8e4m3) y := by
  refine View.canon_apply_of_pieces (f : Vec Ideal S3584x3584 .fp8e4m3) (wparts c f) (fun p hp x => ?_) y
    (View.cover_of_tiledBy (wparts c f) ![3584, 256] (by sl_kernel_rfl) y)
  simp only [wparts, List.mem_cons, List.not_mem_nil, or_false] at hp
  rcases hp with rfl | rfl | rfl | rfl | rfl | rfl | rfl | rfl <;> rfl

/-- A load of 128 columns of the weights. -/
theorem load_w (arg8 : Memref sig .tc .vmem S3584x3584 .fp8e4m3) (f : HbBuf0 (F := Ideal) c hbM0_1) (o : ℕ) (ho : o + 128 ≤ 3584)
    (inb : ∀ a, (![0, o] : Fin 2 → ℕ) a + S3584x128.size a ≤ S3584x3584.size a) (k : Fin 3584) (l : Fin 128) :
    arg8.view.readCov (wparts c f) (Rect.unit (s := S3584x3584) ![0, o] S3584x128.size inb).toLoadRect (ix2 k l)
      = (f : Vec Ideal S3584x3584 .fp8e4m3) (ix2 k ⟨o + l.val, by omega⟩) := by
  rw [View.readCov_eq_canon']
  show View.canon (wparts c f) _ = _
  rw [canon_wparts]
  refine congrArg (f : Vec Ideal S3584x3584 .fp8e4m3) (funext fun a => Fin.ext ?_)
  match a with
  | ⟨0, _⟩ => show 0 + 1 * k.val = k.val; omega
  | ⟨1, _⟩ => show o + 1 * l.val = o + l.val; omega

end

end Cert.Proof.Ker
-- ==== Proof.KernelOps.lean ====
/- Hand-written, untrusted: WHAT THE KERNEL'S VECTOR OPERATIONS COMPUTE at an index: the quantiser of the activations and of
   the gated product, one unit of 128 gate and 128 up columns, the running largest magnitude, and the row of scales laid
   out from a column through the diagonal. -/
module

public import proofs.«01_k».proof.Proof.Gen.KernelIdeal.Skeleton
public import proofs.«01_k».proof.Proof.Spec
public import Idealize.ShloMosaic.Lib.Pointwise
public import Idealize.ShloMosaic.Lib.Pipeline.Value

@[expose] public section

set_option maxRecDepth 65536

noncomputable section

namespace Cert.Proof.Ker

open Cert.KernelIdeal Cert.KernelIdeal.Gen Cert.Proof
open Idealize.ShloMosaic Idealize.SL.Sem Idealize.ShloMosaic.Pointwise

/-! ## The quantiser of the activations -/

/-- The activations, eight rows to a slab, as rows. -/
theorem pay3 (x : Vec Ideal S24x8x3584 .bf16) (r : Fin 192) (k : Fin 3584) :
    k0_pay3 x (ix2 r k) = x (ix3 ⟨r.val / 8, by omega⟩ ⟨r.val % 8, by omega⟩ k) := by
  pointwise [k0_pay3]

theorem pay4 (x : Vec Ideal S24x8x3584 .bf16) (r : Fin 192) (z : Fin 1) : k0_pay4 x (ix2 r z) = amaxS fun k => k0_pay3 x (ix2 r k) := by
  pointwise [k0_pay4]
  rfl

/-- The exponent's word. -/
theorem pay8 (x : Vec Ideal S24x8x3584 .bf16) (j : S192x1.Idx) :
    k0_pay8 (k0_pay4 x) (k0_pay5 x) (k0_pay7 (k0_pay5 x) (k0_pay6 x) 64#32) 2#32 j = kE (k0_pay4 x j) (tS (k0_pay4 x j)) := rfl

theorem pay9 (a t : FVec Ideal S192x1 .f32) (k : IVec S192x1 32) (s : BitVec 32) (j : S192x1.Idx) :
    k0_pay9 a t k s j = kScale (k0_pay8 a t k s j) := rfl

theorem pay10 (x : FVec Ideal S192x3584 .f32) (e : IVec S192x1 32) (r : Fin 192) (k : Fin 3584) :
    k0_pay10 x e 0#32 (ix2 r k) = clampS (x (ix2 r k) * kScale (IntOp.subi 0#32 (e (ix2 r 0)))) := by
  pointwise [k0_pay10]
  rfl

/-! ## One unit -/

/-- One unit's gated values: the codes into the gate's and the up's 128 columns, each scaled back, gated. -/
def unit (xs : FVec Ideal S192x1 .f32) (wg wu : Vec Ideal S3584x128 .fp8e4m3) (xc : Vec Ideal S192x3584 .fp8e4m3) (g u : Vec Ideal S1x128 .f32) :
    FVec Ideal S192x128 .f32 := k0_pay22 xs wg wu xc g u

theorem unit_apply (xs : FVec Ideal S192x1 .f32) (wg wu : Vec Ideal S3584x128 .fp8e4m3) (xc : Vec Ideal S192x3584 .fp8e4m3) (g u : Vec Ideal S1x128 .f32)
    (r : Fin 192) (l : Fin 128) :
    unit xs wg wu xc g u (ix2 r l) = gateS ((∑ k, xc (ix2 r k) * wg (ix2 k l)) * xs (ix2 r 0) * g (ix2 0 l))
      ((∑ k, xc (ix2 r k) * wu (ix2 k l)) * xs (ix2 r 0) * u (ix2 0 l)) := by
  unfold unit
  pointwise [k0_pay22, k0_pay21]
  rfl

section
variable (xs : FVec Ideal S192x1 .f32) (wg wu : Vec Ideal S3584x128 .fp8e4m3) (xc : Vec Ideal S192x3584 .fp8e4m3) (g u : Vec Ideal S1x128 .f32)

/-- The fourteen units are one computation, cut differently into the printed function's parts. -/
theorem unit0 : k0_pay20 (k0_pay16 xs wg wu xc g) (k0_pay17 xs wg wu xc) (k0_pay18 u) = unit xs wg wu xc g u := rfl
theorem unit1 : k0_pay22 xs wg wu xc g u = unit xs wg wu xc g u := rfl
theorem unit2 : k0_pay26 xs (k0_pay24 wg wu) xc g u = unit xs wg wu xc g u := rfl
theorem unit3 : k0_pay33 (k0_pay29 xs wg wu xc g) (k0_pay30 xs wg wu xc) (k0_pay31 u) = unit xs wg wu xc g u := rfl
theorem unit4 : k0_pay39 (k0_pay36 xs wg wu xc g) (k0_pay37 xs wg wu xc) u = unit xs wg wu xc g u := rfl
theorem unit5 : k0_pay41 xs wg wu xc g u = unit xs wg wu xc g u := rfl
theorem unit6 : k0_pay44 xs wg wu xc g u = unit xs wg wu xc g u := rfl
theorem unit7 : k0_pay50 (k0_pay47 xs wg wu xc g) (k0_pay48 xs wg wu xc) u = unit xs wg wu xc g u := rfl
theorem unit8 : k0_pay56 (k0_pay53 xs wg wu xc g) (k0_pay54 xs wg wu xc) u = unit xs wg wu xc g u := rfl
theorem unit9 : k0_pay58 xs wg wu xc g u = unit xs wg wu xc g u := rfl
theorem unit10 : k0_pay61 xs wg wu xc g u = unit xs wg wu xc g u := rfl
theorem unit11 : k0_pay67 (k0_pay64 xs wg wu xc g) (k0_pay65 xs wg wu xc) u = unit xs wg wu xc g u := rfl
theorem unit12 : k0_pay73 xs (k0_pay70 xs wg wu xc g) (k0_pay71 wg wu xc) u = unit xs wg wu xc g u := rfl
theorem unit13 : k0_pay75 xs wg wu xc g u = unit xs wg wu xc g u := rfl
end

/-! ## The running largest magnitude -/

/-- The larger, lane by lane, of what is so far and a unit's magnitudes. -/
def grow (acc h : FVec Ideal S192x128 .f32) : FVec Ideal S192x128 .f32 := maximumf acc (absf h)

section
variable (xs : FVec Ideal S192x1 .f32) (acc a b : FVec Ideal S192x128 .f32) (g u : Vec Ideal S1x128 .f32)
  (wg wu : Vec Ideal S3584x128 .fp8e4m3) (wc : FVec Ideal S3584x256 .fp8e4m3) (xc : Vec Ideal S192x3584 .fp8e4m3) (u' : FVec Ideal S192x128 .f32)
  (v : Vec Ideal S1x128 .f32)

theorem grow01 : k0_pay23 xs acc a b u' wg wu xc g u = grow (grow acc (k0_pay20 a b u')) (k0_pay22 xs wg wu xc g u) := by
  simp only [k0_pay23, k0_pay20, k0_pay22, shapeCast_self, grow]
theorem grow2 : k0_pay27 xs acc wc xc g u = grow acc (k0_pay26 xs wc xc g u) := by
  simp only [k0_pay27, k0_pay26, shapeCast_self, grow]
theorem grow3 : k0_pay34 acc a b u' = grow acc (k0_pay33 a b u') := by
  simp only [k0_pay34, k0_pay33, shapeCast_self, grow]
theorem grow45 : k0_pay42 xs acc a b v wg wu xc g u = grow (grow acc (k0_pay39 a b v)) (k0_pay41 xs wg wu xc g u) := by
  simp only [k0_pay42, k0_pay39, k0_pay41, shapeCast_self, grow]
theorem grow6 : k0_pay45 xs acc wg wu xc g u = grow acc (k0_pay44 xs wg wu xc g u) := by
  simp only [k0_pay45, k0_pay44, shapeCast_self, grow]
theorem grow7 : k0_pay51 acc a b v = grow acc (k0_pay50 a b v) := by
  simp only [k0_pay51, k0_pay50, shapeCast_self, grow]
theorem grow89 : k0_pay59 xs acc a b v wg wu xc g u = grow (grow acc (k0_pay56 a b v)) (k0_pay58 xs wg wu xc g u) := by
  simp only [k0_pay59, k0_pay56, k0_pay58, shapeCast_self, grow]
theorem grow10 : k0_pay62 xs acc wg wu xc g u = grow acc (k0_pay61 xs wg wu xc g u) := by
  simp only [k0_pay62, k0_pay61, shapeCast_self, grow]
theorem grow11 : k0_pay68 acc a b v = grow acc (k0_pay67 a b v) := by
  simp only [k0_pay68, k0_pay67, shapeCast_self, grow]

/-- The largest of a row of 128 lanes. -/
def top (acc : FVec Ideal S192x128 .f32) : FVec Ideal S192 .f32 :=
  multiReduction .maximumf [1] S192 acc 0xFF800000#32 reduces_S192x128_S192 (.inl rfl) rfl

theorem top_apply (r : Fin 192) : top acc (ix1 r) = Finset.univ.fold max (Ideal.ofBits .f32 0xFF800000#32) fun l : Fin 128 => acc (ix2 r l) := by
  pointwise [top]

theorem grow1213 : k0_pay76 xs acc a b v wg wu xc g u = top (grow (grow acc (k0_pay73 xs a b v)) (k0_pay75 xs wg wu xc g u)) := by
  simp only [k0_pay76, k0_pay73, k0_pay75, top, shapeCast_self, grow]

theorem start_apply (r : Fin 192) (l : Fin 128) : k0_pay14 (F := Ideal) (ix2 r l) = 0 := by
  pointwise [k0_pay14]
end

/-- After `n` units a lane of the running maximum is at most `c` just when `c` is not negative and bounds the magnitudes of
    that lane's columns in the units so far. -/
def Upto (H : Fin 192 → Fin 1792 → EReal) (n : ℕ) (acc : FVec Ideal S192x128 .f32) : Prop :=
  ∀ (r : Fin 192) (l : Fin 128) (c : EReal), acc (ix2 r l) ≤ c ↔ 0 ≤ c ∧ ∀ j : Fin 1792, j.val < 128 * n → j.val % 128 = l.val →
    FloatOps.absf (F := Ideal) (φ := .f32) (H r j) ≤ c

theorem upto_zero (H : Fin 192 → Fin 1792 → EReal) : Upto H 0 (k0_pay14 (F := Ideal)) := by
  intro r l c
  rw [start_apply]
  simp

theorem upto_grow {H : Fin 192 → Fin 1792 → EReal} {n : ℕ} {acc h : FVec Ideal S192x128 .f32} (hn : n < 14) (ha : Upto H n acc)
    (hh : ∀ (r : Fin 192) (l : Fin 128), h (ix2 r l) = H r ⟨128 * n + l.val, by omega⟩) : Upto H (n + 1) (grow acc h) := by
  intro r l c
  have hl := l.isLt
  have e : grow acc h (ix2 r l) = max (acc (ix2 r l)) (FloatOps.absf (F := Ideal) (φ := .f32) (H r ⟨128 * n + l.val, by omega⟩)) := by
    rw [← hh]; rfl
  rw [e, max_le_iff, ha r l c]
  constructor
  · rintro ⟨⟨h0, hk⟩, hl'⟩
    refine ⟨h0, fun j hj hm => ?_⟩
    by_cases hlt : j.val < 128 * n
    · exact hk j hlt hm
    · have : j = ⟨128 * n + l.val, by omega⟩ := Fin.ext (by simp only; omega)
      rw [this]; exact hl'
  · rintro ⟨h0, hk⟩
    exact ⟨⟨h0, fun j hj hm => hk j (by omega) hm⟩, hk ⟨128 * n + l.val, by omega⟩ (by simp only; omega) (by simp only; omega)⟩

/-- After all the units the largest lane is the row's largest magnitude. -/
theorem top_upto {H : Fin 192 → Fin 1792 → EReal} {acc : FVec Ideal S192x128 .f32} (ha : Upto H 14 acc) (r : Fin 192) :
    top acc (ix1 r) = amaxS (H r) := by
  refine eq_of_forall_ge_iff fun c => ?_
  rw [top_apply, amaxS_le_iff, Finset.fold_max_le, cninf]
  constructor
  · rintro ⟨_, h⟩ j
    have hj := j.isLt
    exact ((ha r ⟨j.val % 128, by omega⟩ c).mp (h _ (Finset.mem_univ _))).2 j (by omega) rfl
  · intro h
    exact ⟨bot_le, fun l _ => (ha r l c).mpr ⟨(absf_nonneg _).trans (h 0), fun j _ _ => h j⟩⟩

/-! ## The quantiser of the gated product -/

theorem pay77 (a : FVec Ideal S192 .f32) (r : Fin 192) (z : Fin 1) : k0_pay77 a (ix2 r z) = a (ix1 r) := by
  pointwise [k0_pay77]

theorem pay81 (a : FVec Ideal S192 .f32) (j : S192x1.Idx) :
    k0_pay81 (k0_pay77 a) (k0_pay78 a) (k0_pay79 a) (k0_pay80 (F := Ideal) a) j = kE (k0_pay77 a j) (tS (k0_pay77 a j)) := rfl

theorem pay82 (e : IVec S192x1 32) (j : S192x1.Idx) : k0_pay82 (F := Ideal) e 127#32 j = kScale (e j) := rfl

theorem pay83 (e : IVec S192x1 32) (h : Vec Ideal S192x1792 .f32) (r : Fin 192) (k : Fin 1792) :
    k0_pay83 e h (ix2 r k) = clampS (h (ix2 r k) * kScale (IntOp.subi 0#32 (e (ix2 r 0)))) := by
  pointwise [k0_pay83]
  rfl

/-! ## A column laid out as a row -/

theorem pay11 (x : FVec Ideal S192x1 .f32) (z : Fin 1) (l : Fin 128) (h : 0 ≤ x (ix2 ⟨l.val, by omega⟩ 0)) :
    k0_pay11 x (ix2 z l) = x (ix2 ⟨l.val, by omega⟩ 0) := by
  pointwise [k0_pay11]
  exact diag_max (fun k : Fin 128 => x (ix2 ⟨k.val, by omega⟩ 0)) l (by omega) h

theorem pay13 (x : FVec Ideal S192x1 .f32) (z : Fin 1) (l : Fin 64) (h : 0 ≤ x (ix2 ⟨128 + l.val, by omega⟩ 0)) :
    k0_pay13 (k0_pay12 x) (ix2 z l) = x (ix2 ⟨128 + l.val, by omega⟩ 0) := by
  pointwise [k0_pay13, k0_pay12]
  exact diag_max (fun k : Fin 64 => x (ix2 ⟨128 + k.val, by omega⟩ 0)) l (by omega) h

theorem pay1 (e : IVec S192x1 32) (z : Fin 1) (l : Fin 128) (h : 0 ≤ kScale (e (ix2 ⟨l.val, by omega⟩ 0))) :
    k0_pay1 (k0_pay84 (F := Ideal) e 127#32) (iota .tc S128x128 32 [0] iota_S128x128_d0_w32) (ix2 z l) = kScale (e (ix2 ⟨l.val, by omega⟩ 0)) := by
  pointwise [k0_pay1, k0_pay84]
  exact diag_max (fun k : Fin 128 => kScale (e (ix2 ⟨k.val, by omega⟩ 0))) l (by omega) h

theorem pay2 (x : FVec Ideal S192x1 .f32) (z : Fin 1) (l : Fin 64) (h : 0 ≤ x (ix2 ⟨128 + l.val, by omega⟩ 0)) :
    k0_pay2 x (ix2 z l) = x (ix2 ⟨128 + l.val, by omega⟩ 0) := by
  pointwise [k0_pay2]
  exact diag_max (fun k : Fin 64 => x (ix2 ⟨128 + k.val, by omega⟩ 0)) l (by omega) h

end Cert.Proof.Ker
-- ==== Proof.KernelUnits.lean ====
/- Hand-written, untrusted: WHAT THE KERNEL LEAVES in its four results, over its three operands: the codes and scales of the
   activations, and the codes and scales of the gated product of the dequantised products. -/
module

public import proofs.«01_k».proof.Proof.KernelRead
public import proofs.«01_k».proof.Proof.KernelOps

@[expose] public section

set_option maxRecDepth 65536

noncomputable section

namespace Cert.Proof.Ker

open Cert.KernelIdeal Cert.KernelIdeal.Gen Cert.Proof
open Idealize.ShloMosaic Idealize.SL.Sem Idealize.ShloMosaic.Pointwise

/-! ## The operands as the mathematics reads them -/

section
variable (c : Dev nD)

/-- The activations: row `r` is row `r % 8` of slab `r / 8`. -/
def kX (f : HbBuf0 (F := Ideal) c hbM0_0) (r : Fin 192) (k : Fin 3584) : EReal :=
  (f : Vec Ideal S24x8x3584 .bf16) (ix3 ⟨r.val / 8, by omega⟩ ⟨r.val % 8, by omega⟩ k)

/-- The weights. -/
def kW (f : HbBuf0 (F := Ideal) c hbM0_1) (k l : Fin 3584) : EReal := (f : Vec Ideal S3584x3584 .fp8e4m3) (ix2 k l)

/-- The weights' scales: column `l`'s is lane `l % 128` of row `l / 128`. -/
def kS (f : HbBuf0 (F := Ideal) c hbM0_2) (l : Fin 3584) : EReal :=
  (f : Vec Ideal S28x128 .f32) (ix2 ⟨l.val / 128, by omega⟩ ⟨l.val % 128, by omega⟩)

/-- The gated product. -/
def kH (f0 : HbBuf0 (F := Ideal) c hbM0_0) (f1 : HbBuf0 (F := Ideal) c hbM0_1) (f2 : HbBuf0 (F := Ideal) c hbM0_2) : Fin 192 → Fin 1792 → EReal :=
  hS (kX c f0) (kW c f1) (kS c f2)

variable (arg5 : Memref sig .tc .vmem S192x3584 .fp8e4m3) (arg7 : Memref sig .tc .vmem S24x8x3584 .bf16)
  (arg8 : Memref sig .tc .vmem S3584x3584 .fp8e4m3) (arg9 : Memref sig .tc .vmem S28x128 .f32) (arg10 : Memref sig .tc .vmem S192x1792 .f32)
  (f0 : HbBuf0 (F := Ideal) c hbM0_0) (f1 : HbBuf0 (F := Ideal) c hbM0_1) (f2 : HbBuf0 (F := Ideal) c hbM0_2)

/-! ## The quantised activations -/

theorem rows (r : Fin 192) (k : Fin 3584) : kernelRun0_A.sl.r c arg7 f0 (ix2 r k) = kX c f0 r k := by
  show k0_pay3 (kernelRun0_A.sl.v32 c arg7 f0) (ix2 r k) = _
  rw [load_x, pay3]
  rfl

theorem largest (r : Fin 192) (z : Fin 1) : kernelRun0_A.sl.r_1 c arg7 f0 (ix2 r z) = amaxS (kX c f0 r) := by
  show k0_pay4 (kernelRun0_A.sl.v32 c arg7 f0) (ix2 r z) = _
  rw [pay4]
  exact congrArg amaxS (funext fun k => rows c arg7 f0 r k)

theorem exponent (r : Fin 192) (z : Fin 1) :
    kernelRun0_A.sl.r_5 c arg7 f0 (ix2 r z) = kE (amaxS (kX c f0 r)) (tS (amaxS (kX c f0 r))) := by
  rw [← largest c arg7 f0 r z]
  exact pay8 (kernelRun0_A.sl.v32 c arg7 f0) (ix2 r z)

theorem scale (r : Fin 192) (z : Fin 1) : kernelRun0_A.sl.r_6 c arg7 f0 (ix2 r z) = scaleS (amaxS (kX c f0 r)) := by
  have h : kernelRun0_A.sl.r_6 c arg7 f0 (ix2 r z) = kScale (kernelRun0_A.sl.r_5 c arg7 f0 (ix2 r z)) := pay9 _ _ _ _ _
  rw [h, exponent, scaleK (amaxS_nonneg _)]

theorem stored_codes (r : Fin 192) (k : Fin 3584) :
    k0_pay10 (kernelRun0_A.sl.r c arg7 f0) (kernelRun0_A.sl.r_5 c arg7 f0) 0#32 (ix2 r k) = xcS (kX c f0) r k := by
  rw [pay10, rows, exponent, invK (amaxS_nonneg _)]
  rfl

theorem codes (r : Fin 192) (k : Fin 3584) : kernelRun0_A.sl.v196 c arg5 arg7 f0 (ix2 r k) = xcS (kX c f0) r k := by
  have h : kernelRun0_A.sl.v196 c arg5 arg7 f0 = k0_pay10 (kernelRun0_A.sl.r c arg7 f0) (kernelRun0_A.sl.r_5 c arg7 f0) 0#32 :=
    View.readCov_unit_zero arg5.view zero2 _ _
  rw [h, stored_codes]

/-! ## The fourteen units -/

/-- A block of 128 columns of the weights lies in them. -/
theorem inbW (o : ℕ) (h : o + 128 ≤ 3584) : ∀ a, (![0, o] : Fin 2 → ℕ) a + S3584x128.size a ≤ S3584x3584.size a := fun a =>
  match a with
  | ⟨0, _⟩ => by show 0 + 3584 ≤ 3584; omega
  | ⟨1, _⟩ => h

/-- A row of the weights' scales lies in them. -/
theorem inbS (i : ℕ) (h : i + 1 ≤ 28) : ∀ a, (![i, 0] : Fin 2 → ℕ) a + S1x128.size a ≤ S28x128.size a := fun a =>
  match a with
  | ⟨0, _⟩ => h
  | ⟨1, _⟩ => by show 0 + 128 ≤ 128; omega

/-- Unit `i`: the gate columns from `128 i`, the up columns from `1792 + 128 i`, and the rows `i` and `14 + i` of the scales. -/
def uH (i : Fin 14) : FVec Ideal S192x128 .f32 :=
  unit (kernelRun0_A.sl.r_6 c arg7 f0)
    (arg8.view.readCov (wparts c f1) (Rect.unit (s := S3584x3584) ![0, 128 * i.val] S3584x128.size (inbW _ (by omega))).toLoadRect)
    (arg8.view.readCov (wparts c f1) (Rect.unit (s := S3584x3584) ![0, 1792 + 128 * i.val] S3584x128.size (inbW _ (by omega))).toLoadRect)
    (kernelRun0_A.sl.v196 c arg5 arg7 f0)
    (arg9.view.readCov [⟨Rect.whole S28x128, kernelRun0_A.sl.dma0_1 c f2⟩]
      (Rect.unit (s := S28x128) ![i.val, 0] S1x128.size (inbS _ (by omega))).toLoadRect)
    (arg9.view.readCov [⟨Rect.whole S28x128, kernelRun0_A.sl.dma0_1 c f2⟩]
      (Rect.unit (s := S28x128) ![14 + i.val, 0] S1x128.size (inbS _ (by omega))).toLoadRect)

/-- Unit `i` is 128 columns of the gated product. -/
theorem uH_apply (i : Fin 14) (r : Fin 192) (l : Fin 128) :
    uH c arg5 arg7 arg8 arg9 f0 f1 f2 i (ix2 r l) = kH c f0 f1 f2 r ⟨128 * i.val + l.val, by omega⟩ := by
  have hi := i.isLt
  have hl := l.isLt
  have hS1 : kS c f2 ⟨128 * i.val + l.val, by omega⟩ = (f2 : Vec Ideal S28x128 .f32) (ix2 ⟨i.val, by omega⟩ l) := by
    have e1 : (⟨(128 * i.val + l.val) / 128, by omega⟩ : Fin 28) = ⟨i.val, by omega⟩ := Fin.ext (by simp only; omega)
    have e2 : (⟨(128 * i.val + l.val) % 128, by omega⟩ : Fin 128) = l := Fin.ext (by simp only; omega)
    exact congrArg₂ (fun a b => (f2 : Vec Ideal S28x128 .f32) (ix2 a b)) e1 e2
  have hS2 : kS c f2 ⟨1792 + (128 * i.val + l.val), by omega⟩ = (f2 : Vec Ideal S28x128 .f32) (ix2 ⟨14 + i.val, by omega⟩ l) := by
    have e1 : (⟨(1792 + (128 * i.val + l.val)) / 128, by omega⟩ : Fin 28) = ⟨14 + i.val, by omega⟩ := Fin.ext (by simp only; omega)
    have e2 : (⟨(1792 + (128 * i.val + l.val)) % 128, by omega⟩ : Fin 128) = l := Fin.ext (by simp only; omega)
    exact congrArg₂ (fun a b => (f2 : Vec Ideal S28x128 .f32) (ix2 a b)) e1 e2
  have hW2 (k : Fin 3584) : (f1 : Vec Ideal S3584x3584 .fp8e4m3) (ix2 k ⟨1792 + 128 * i.val + l.val, by omega⟩)
      = kW c f1 k ⟨1792 + (128 * i.val + l.val), by omega⟩ :=
    congrArg (fun a => (f1 : Vec Ideal S3584x3584 .fp8e4m3) (ix2 k a)) (Fin.ext (Nat.add_assoc _ _ _))
  unfold uH
  rw [unit_apply]
  simp only [load_w c arg8 f1 (128 * i.val) (by omega), load_w c arg8 f1 (1792 + 128 * i.val) (by omega),
    load_s c arg9 f2 ⟨i.val, by omega⟩, load_s c arg9 f2 ⟨14 + i.val, by omega⟩, codes, scale, hW2, ← hS1, ← hS2]
  rfl

/-- What each of the fourteen stores of the gated product holds. -/
theorem piece0 : k0_pay20 (kernelRun0_A.sl.r_8 c arg5 arg7 arg8 arg9 f0 f1 f2) (kernelRun0_A.sl.r_9 c arg5 arg7 arg8 f0 f1) (kernelRun0_A.sl.r_10 c arg9 f2) = uH c arg5 arg7 arg8 arg9 f0 f1 f2 0 := unit0 _ _ _ _ _ _
theorem piece1 : k0_pay22 (kernelRun0_A.sl.r_6 c arg7 f0) (kernelRun0_A.sl.v219 c arg8 f1) (kernelRun0_A.sl.v220 c arg8 f1) (kernelRun0_A.sl.v196 c arg5 arg7 f0) (kernelRun0_A.sl.v228 c arg9 f2) (kernelRun0_A.sl.v234 c arg9 f2) = uH c arg5 arg7 arg8 arg9 f0 f1 f2 1 := unit1 _ _ _ _ _ _
theorem piece2 : k0_pay26 (kernelRun0_A.sl.r_6 c arg7 f0) (kernelRun0_A.sl.r_12 c arg8 f1) (kernelRun0_A.sl.v196 c arg5 arg7 f0) (kernelRun0_A.sl.v254 c arg9 f2) (kernelRun0_A.sl.v260 c arg9 f2) = uH c arg5 arg7 arg8 arg9 f0 f1 f2 2 := unit2 _ _ _ _ _ _
theorem piece3 : k0_pay33 (kernelRun0_A.sl.r_14 c arg5 arg7 arg8 arg9 f0 f1 f2) (kernelRun0_A.sl.r_15 c arg5 arg7 arg8 f0 f1) (kernelRun0_A.sl.r_16 c arg9 f2) = uH c arg5 arg7 arg8 arg9 f0 f1 f2 3 := unit3 _ _ _ _ _ _
theorem piece4 : k0_pay39 (kernelRun0_A.sl.r_18 c arg5 arg7 arg8 arg9 f0 f1 f2) (kernelRun0_A.sl.r_19 c arg5 arg7 arg8 f0 f1) (kernelRun0_A.sl.v320 c arg9 f2) = uH c arg5 arg7 arg8 arg9 f0 f1 f2 4 := unit4 _ _ _ _ _ _
theorem piece5 : k0_pay41 (kernelRun0_A.sl.r_6 c arg7 f0) (kernelRun0_A.sl.v331 c arg8 f1) (kernelRun0_A.sl.v332 c arg8 f1) (kernelRun0_A.sl.v196 c arg5 arg7 f0) (kernelRun0_A.sl.v340 c arg9 f2) (kernelRun0_A.sl.v346 c arg9 f2) = uH c arg5 arg7 arg8 arg9 f0 f1 f2 5 := unit5 _ _ _ _ _ _
theorem piece6 : k0_pay44 (kernelRun0_A.sl.r_6 c arg7 f0) (kernelRun0_A.sl.v357 c arg8 f1) (kernelRun0_A.sl.v358 c arg8 f1) (kernelRun0_A.sl.v196 c arg5 arg7 f0) (kernelRun0_A.sl.v366 c arg9 f2) (kernelRun0_A.sl.v372 c arg9 f2) = uH c arg5 arg7 arg8 arg9 f0 f1 f2 6 := unit6 _ _ _ _ _ _
theorem piece7 : k0_pay50 (kernelRun0_A.sl.r_22 c arg5 arg7 arg8 arg9 f0 f1 f2) (kernelRun0_A.sl.r_23 c arg5 arg7 arg8 f0 f1) (kernelRun0_A.sl.v398 c arg9 f2) = uH c arg5 arg7 arg8 arg9 f0 f1 f2 7 := unit7 _ _ _ _ _ _
theorem piece8 : k0_pay56 (kernelRun0_A.sl.r_25 c arg5 arg7 arg8 arg9 f0 f1 f2) (kernelRun0_A.sl.r_26 c arg5 arg7 arg8 f0 f1) (kernelRun0_A.sl.v432 c arg9 f2) = uH c arg5 arg7 arg8 arg9 f0 f1 f2 8 := unit8 _ _ _ _ _ _
theorem piece9 : k0_pay58 (kernelRun0_A.sl.r_6 c arg7 f0) (kernelRun0_A.sl.v443 c arg8 f1) (kernelRun0_A.sl.v444 c arg8 f1) (kernelRun0_A.sl.v196 c arg5 arg7 f0) (kernelRun0_A.sl.v452 c arg9 f2) (kernelRun0_A.sl.v458 c arg9 f2) = uH c arg5 arg7 arg8 arg9 f0 f1 f2 9 := unit9 _ _ _ _ _ _
theorem piece10 : k0_pay61 (kernelRun0_A.sl.r_6 c arg7 f0) (kernelRun0_A.sl.v469 c arg8 f1) (kernelRun0_A.sl.v470 c arg8 f1) (kernelRun0_A.sl.v196 c arg5 arg7 f0) (kernelRun0_A.sl.v478 c arg9 f2) (kernelRun0_A.sl.v484 c arg9 f2) = uH c arg5 arg7 arg8 arg9 f0 f1 f2 10 := unit10 _ _ _ _ _ _
theorem piece11 : k0_pay67 (kernelRun0_A.sl.r_29 c arg5 arg7 arg8 arg9 f0 f1 f2) (kernelRun0_A.sl.r_30 c arg5 arg7 arg8 f0 f1) (kernelRun0_A.sl.v510 c arg9 f2) = uH c arg5 arg7 arg8 arg9 f0 f1 f2 11 := unit11 _ _ _ _ _ _
theorem piece12 : k0_pay73 (kernelRun0_A.sl.r_6 c arg7 f0) (kernelRun0_A.sl.r_32 c arg5 arg7 arg8 arg9 f0 f1 f2) (kernelRun0_A.sl.r_33 c arg5 arg7 arg8 f0 f1) (kernelRun0_A.sl.v544 c arg9 f2) = uH c arg5 arg7 arg8 arg9 f0 f1 f2 12 := unit12 _ _ _ _ _ _
theorem piece13 : k0_pay75 (kernelRun0_A.sl.r_6 c arg7 f0) (kernelRun0_A.sl.v555 c arg8 f1) (kernelRun0_A.sl.v556 c arg8 f1) (kernelRun0_A.sl.v196 c arg5 arg7 f0) (kernelRun0_A.sl.v564 c arg9 f2) (kernelRun0_A.sl.v570 c arg9 f2) = uH c arg5 arg7 arg8 arg9 f0 f1 f2 13 := unit13 _ _ _ _ _ _

/-! ## The gated product, stored and read back -/

theorem inbH (o : ℕ) (h : o + 128 ≤ 1792) : ∀ a, (![0, o] : Fin 2 → ℕ) a + S192x128.size a ≤ S192x1792.size a := fun a =>
  match a with
  | ⟨0, _⟩ => by show 0 + 192 ≤ 192; omega
  | ⟨1, _⟩ => h

/-- A unit is the gated product's part under the rectangle it is stored through. -/
theorem uH_part (i : Fin 14) (x : S192x128.Idx) : uH c arg5 arg7 arg8 arg9 f0 f1 f2 i x
    = (fun j : S192x1792.Idx => kH c f0 f1 f2 (j 0) (j 1))
      ((Rect.unit (s := S192x1792) ![0, 128 * i.val] S192x128.size (inbH _ (by omega))).emb x) := by
  have h1 : x = ix2 (x 0) (x 1) := by funext a; fin_cases a <;> rfl
  have h2 : uH c arg5 arg7 arg8 arg9 f0 f1 f2 i x = uH c arg5 arg7 arg8 arg9 f0 f1 f2 i (ix2 (x 0) (x 1)) := congrArg _ h1
  refine h2.trans ((uH_apply c arg5 arg7 arg8 arg9 f0 f1 f2 i (x 0) (x 1)).trans ?_)
  refine congrArg₂ (kH c f0 f1 f2) (Fin.ext ?_) (Fin.ext ?_)
  · show (x 0).val = 0 + 1 * (x 0).val; omega
  · show 128 * i.val + (x 1).val = 128 * i.val + 1 * (x 1).val; omega

theorem read_back (r : Fin 192) (k : Fin 1792) :
    kernelRun0_A.sl.v698 c arg5 arg7 arg8 arg9 arg10 f0 f1 f2 (ix2 r k) = kH c f0 f1 f2 r k := by
  have h := congrFun (View.readCov_eq_canon' arg10.view (kernelRun0_A.sl.HS3_14 c arg5 arg7 arg8 arg9 f0 f1 f2)
    (Rect.unit ![0, 0] S192x1792.size inb_S192x1792_S192x1792_0_0).toLoadRect) (ix2 r k)
  refine Eq.trans h ?_
  refine (View.canon_apply_of_pieces (fun j : S192x1792.Idx => kH c f0 f1 f2 (j 0) (j 1)) (kernelRun0_A.sl.HS3_14 c arg5 arg7 arg8 arg9 f0 f1 f2)
    (fun p hp x => ?_) _ (View.cover_of_tiledL (kernelRun0_A.sl.HS3_14 c arg5 arg7 arg8 arg9 f0 f1 f2) S192x128.size (by sl_kernel_rfl) _)).trans ?_
  · simp only [kernelRun0_A.sl.HS3_14, List.mem_cons, List.not_mem_nil, or_false] at hp
    rcases hp with rfl | rfl | rfl | rfl | rfl | rfl | rfl | rfl | rfl | rfl | rfl | rfl | rfl | rfl
    · exact (congrFun (piece13 c arg5 arg7 arg8 arg9 f0 f1 f2) x).trans (uH_part c arg5 arg7 arg8 arg9 f0 f1 f2 13 x)
    · exact (congrFun (piece12 c arg5 arg7 arg8 arg9 f0 f1 f2) x).trans (uH_part c arg5 arg7 arg8 arg9 f0 f1 f2 12 x)
    · exact (congrFun (piece11 c arg5 arg7 arg8 arg9 f0 f1 f2) x).trans (uH_part c arg5 arg7 arg8 arg9 f0 f1 f2 11 x)
    · exact (congrFun (piece10 c arg5 arg7 arg8 arg9 f0 f1 f2) x).trans (uH_part c arg5 arg7 arg8 arg9 f0 f1 f2 10 x)
    · exact (congrFun (piece9 c arg5 arg7 arg8 arg9 f0 f1 f2) x).trans (uH_part c arg5 arg7 arg8 arg9 f0 f1 f2 9 x)
    · exact (congrFun (piece8 c arg5 arg7 arg8 arg9 f0 f1 f2) x).trans (uH_part c arg5 arg7 arg8 arg9 f0 f1 f2 8 x)
    · exact (congrFun (piece7 c arg5 arg7 arg8 arg9 f0 f1 f2) x).trans (uH_part c arg5 arg7 arg8 arg9 f0 f1 f2 7 x)
    · exact (congrFun (piece6 c arg5 arg7 arg8 arg9 f0 f1 f2) x).trans (uH_part c arg5 arg7 arg8 arg9 f0 f1 f2 6 x)
    · exact (congrFun (piece5 c arg5 arg7 arg8 arg9 f0 f1 f2) x).trans (uH_part c arg5 arg7 arg8 arg9 f0 f1 f2 5 x)
    · exact (congrFun (piece4 c arg5 arg7 arg8 arg9 f0 f1 f2) x).trans (uH_part c arg5 arg7 arg8 arg9 f0 f1 f2 4 x)
    · exact (congrFun (piece3 c arg5 arg7 arg8 arg9 f0 f1 f2) x).trans (uH_part c arg5 arg7 arg8 arg9 f0 f1 f2 3 x)
    · exact (congrFun (piece2 c arg5 arg7 arg8 arg9 f0 f1 f2) x).trans (uH_part c arg5 arg7 arg8 arg9 f0 f1 f2 2 x)
    · exact (congrFun (piece1 c arg5 arg7 arg8 arg9 f0 f1 f2) x).trans (uH_part c arg5 arg7 arg8 arg9 f0 f1 f2 1 x)
    · exact (congrFun (piece0 c arg5 arg7 arg8 arg9 f0 f1 f2) x).trans (uH_part c arg5 arg7 arg8 arg9 f0 f1 f2 0 x)
  · refine congrArg₂ (kH c f0 f1 f2) (Fin.ext ?_) (Fin.ext ?_)
    · show 0 + 1 * r.val = r.val; omega
    · show 0 + 1 * k.val = k.val; omega

/-! ## The largest magnitude of a row of the gated product -/

theorem upto2 : Upto (kH c f0 f1 f2) 2 (kernelRun0_A.sl.r_11 c arg5 arg7 arg8 arg9 f0 f1 f2) := by
  have e : kernelRun0_A.sl.r_11 c arg5 arg7 arg8 arg9 f0 f1 f2 = grow (grow k0_pay14 (k0_pay20 (kernelRun0_A.sl.r_8 c arg5 arg7 arg8 arg9 f0 f1 f2) (kernelRun0_A.sl.r_9 c arg5 arg7 arg8 f0 f1) (kernelRun0_A.sl.r_10 c arg9 f2))) (k0_pay22 (kernelRun0_A.sl.r_6 c arg7 f0) (kernelRun0_A.sl.v219 c arg8 f1) (kernelRun0_A.sl.v220 c arg8 f1) (kernelRun0_A.sl.v196 c arg5 arg7 f0) (kernelRun0_A.sl.v228 c arg9 f2) (kernelRun0_A.sl.v234 c arg9 f2)) :=
    grow01 _ _ _ _ _ _ _ _ _ _
  rw [e, piece0, piece1]
  exact upto_grow (n := 1) (by omega) (upto_grow (n := 0) (by omega) (upto_zero _) (uH_apply c arg5 arg7 arg8 arg9 f0 f1 f2 0)) (uH_apply c arg5 arg7 arg8 arg9 f0 f1 f2 1)

theorem upto3 : Upto (kH c f0 f1 f2) 3 (kernelRun0_A.sl.r_13 c arg5 arg7 arg8 arg9 f0 f1 f2) := by
  have e : kernelRun0_A.sl.r_13 c arg5 arg7 arg8 arg9 f0 f1 f2 = grow (kernelRun0_A.sl.r_11 c arg5 arg7 arg8 arg9 f0 f1 f2) (k0_pay26 (kernelRun0_A.sl.r_6 c arg7 f0) (kernelRun0_A.sl.r_12 c arg8 f1) (kernelRun0_A.sl.v196 c arg5 arg7 f0) (kernelRun0_A.sl.v254 c arg9 f2) (kernelRun0_A.sl.v260 c arg9 f2)) :=
    grow2 _ _ _ _ _ _
  rw [e, piece2]
  exact upto_grow (n := 2) (by omega) (upto2 c arg5 arg7 arg8 arg9 f0 f1 f2) (uH_apply c arg5 arg7 arg8 arg9 f0 f1 f2 2)

theorem upto4 : Upto (kH c f0 f1 f2) 4 (kernelRun0_A.sl.r_17 c arg5 arg7 arg8 arg9 f0 f1 f2) := by
  have e : kernelRun0_A.sl.r_17 c arg5 arg7 arg8 arg9 f0 f1 f2 = grow (kernelRun0_A.sl.r_13 c arg5 arg7 arg8 arg9 f0 f1 f2) (k0_pay33 (kernelRun0_A.sl.r_14 c arg5 arg7 arg8 arg9 f0 f1 f2) (kernelRun0_A.sl.r_15 c arg5 arg7 arg8 f0 f1) (kernelRun0_A.sl.r_16 c arg9 f2)) :=
    grow3 _ _ _ _
  rw [e, piece3]
  exact upto_grow (n := 3) (by omega) (upto3 c arg5 arg7 arg8 arg9 f0 f1 f2) (uH_apply c arg5 arg7 arg8 arg9 f0 f1 f2 3)

theorem upto6 : Upto (kH c f0 f1 f2) 6 (kernelRun0_A.sl.r_20 c arg5 arg7 arg8 arg9 f0 f1 f2) := by
  have e : kernelRun0_A.sl.r_20 c arg5 arg7 arg8 arg9 f0 f1 f2 = grow (grow (kernelRun0_A.sl.r_17 c arg5 arg7 arg8 arg9 f0 f1 f2) (k0_pay39 (kernelRun0_A.sl.r_18 c arg5 arg7 arg8 arg9 f0 f1 f2) (kernelRun0_A.sl.r_19 c arg5 arg7 arg8 f0 f1) (kernelRun0_A.sl.v320 c arg9 f2))) (k0_pay41 (kernelRun0_A.sl.r_6 c arg7 f0) (kernelRun0_A.sl.v331 c arg8 f1) (kernelRun0_A.sl.v332 c arg8 f1) (kernelRun0_A.sl.v196 c arg5 arg7 f0) (kernelRun0_A.sl.v340 c arg9 f2) (kernelRun0_A.sl.v346 c arg9 f2)) :=
    grow45 _ _ _ _ _ _ _ _ _ _
  rw [e, piece4, piece5]
  exact upto_grow (n := 5) (by omega) (upto_grow (n := 4) (by omega) (upto4 c arg5 arg7 arg8 arg9 f0 f1 f2) (uH_apply c arg5 arg7 arg8 arg9 f0 f1 f2 4)) (uH_apply c arg5 arg7 arg8 arg9 f0 f1 f2 5)

theorem upto7 : Upto (kH c f0 f1 f2) 7 (kernelRun0_A.sl.r_21 c arg5 arg7 arg8 arg9 f0 f1 f2) := by
  have e : kernelRun0_A.sl.r_21 c arg5 arg7 arg8 arg9 f0 f1 f2 = grow (kernelRun0_A.sl.r_20 c arg5 arg7 arg8 arg9 f0 f1 f2) (k0_pay44 (kernelRun0_A.sl.r_6 c arg7 f0) (kernelRun0_A.sl.v357 c arg8 f1) (kernelRun0_A.sl.v358 c arg8 f1) (kernelRun0_A.sl.v196 c arg5 arg7 f0) (kernelRun0_A.sl.v366 c arg9 f2) (kernelRun0_A.sl.v372 c arg9 f2)) :=
    grow6 _ _ _ _ _ _ _
  rw [e, piece6]
  exact upto_grow (n := 6) (by omega) (upto6 c arg5 arg7 arg8 arg9 f0 f1 f2) (uH_apply c arg5 arg7 arg8 arg9 f0 f1 f2 6)

theorem upto8 : Upto (kH c f0 f1 f2) 8 (kernelRun0_A.sl.r_24 c arg5 arg7 arg8 arg9 f0 f1 f2) := by
  have e : kernelRun0_A.sl.r_24 c arg5 arg7 arg8 arg9 f0 f1 f2 = grow (kernelRun0_A.sl.r_21 c arg5 arg7 arg8 arg9 f0 f1 f2) (k0_pay50 (kernelRun0_A.sl.r_22 c arg5 arg7 arg8 arg9 f0 f1 f2) (kernelRun0_A.sl.r_23 c arg5 arg7 arg8 f0 f1) (kernelRun0_A.sl.v398 c arg9 f2)) :=
    grow7 _ _ _ _
  rw [e, piece7]
  exact upto_grow (n := 7) (by omega) (upto7 c arg5 arg7 arg8 arg9 f0 f1 f2) (uH_apply c arg5 arg7 arg8 arg9 f0 f1 f2 7)

theorem upto10 : Upto (kH c f0 f1 f2) 10 (kernelRun0_A.sl.r_27 c arg5 arg7 arg8 arg9 f0 f1 f2) := by
  have e : kernelRun0_A.sl.r_27 c arg5 arg7 arg8 arg9 f0 f1 f2 = grow (grow (kernelRun0_A.sl.r_24 c arg5 arg7 arg8 arg9 f0 f1 f2) (k0_pay56 (kernelRun0_A.sl.r_25 c arg5 arg7 arg8 arg9 f0 f1 f2) (kernelRun0_A.sl.r_26 c arg5 arg7 arg8 f0 f1) (kernelRun0_A.sl.v432 c arg9 f2))) (k0_pay58 (kernelRun0_A.sl.r_6 c arg7 f0) (kernelRun0_A.sl.v443 c arg8 f1) (kernelRun0_A.sl.v444 c arg8 f1) (kernelRun0_A.sl.v196 c arg5 arg7 f0) (kernelRun0_A.sl.v452 c arg9 f2) (kernelRun0_A.sl.v458 c arg9 f2)) :=
    grow89 _ _ _ _ _ _ _ _ _ _
  rw [e, piece8, piece9]
  exact upto_grow (n := 9) (by omega) (upto_grow (n := 8) (by omega) (upto8 c arg5 arg7 arg8 arg9 f0 f1 f2) (uH_apply c arg5 arg7 arg8 arg9 f0 f1 f2 8)) (uH_apply c arg5 arg7 arg8 arg9 f0 f1 f2 9)

theorem upto11 : Upto (kH c f0 f1 f2) 11 (kernelRun0_A.sl.r_28 c arg5 arg7 arg8 arg9 f0 f1 f2) := by
  have e : kernelRun0_A.sl.r_28 c arg5 arg7 arg8 arg9 f0 f1 f2 = grow (kernelRun0_A.sl.r_27 c arg5 arg7 arg8 arg9 f0 f1 f2) (k0_pay61 (kernelRun0_A.sl.r_6 c arg7 f0) (kernelRun0_A.sl.v469 c arg8 f1) (kernelRun0_A.sl.v470 c arg8 f1) (kernelRun0_A.sl.v196 c arg5 arg7 f0) (kernelRun0_A.sl.v478 c arg9 f2) (kernelRun0_A.sl.v484 c arg9 f2)) :=
    grow10 _ _ _ _ _ _ _
  rw [e, piece10]
  exact upto_grow (n := 10) (by omega) (upto10 c arg5 arg7 arg8 arg9 f0 f1 f2) (uH_apply c arg5 arg7 arg8 arg9 f0 f1 f2 10)

theorem upto12 : Upto (kH c f0 f1 f2) 12 (kernelRun0_A.sl.r_31 c arg5 arg7 arg8 arg9 f0 f1 f2) := by
  have e : kernelRun0_A.sl.r_31 c arg5 arg7 arg8 arg9 f0 f1 f2 = grow (kernelRun0_A.sl.r_28 c arg5 arg7 arg8 arg9 f0 f1 f2) (k0_pay67 (kernelRun0_A.sl.r_29 c arg5 arg7 arg8 arg9 f0 f1 f2) (kernelRun0_A.sl.r_30 c arg5 arg7 arg8 f0 f1) (kernelRun0_A.sl.v510 c arg9 f2)) :=
    grow11 _ _ _ _
  rw [e, piece11]
  exact upto_grow (n := 11) (by omega) (upto11 c arg5 arg7 arg8 arg9 f0 f1 f2) (uH_apply c arg5 arg7 arg8 arg9 f0 f1 f2 11)

theorem largest_h (r : Fin 192) : kernelRun0_A.sl.r_34 c arg5 arg7 arg8 arg9 f0 f1 f2 (ix1 r) = amaxS (kH c f0 f1 f2 r) := by
  have e : kernelRun0_A.sl.r_34 c arg5 arg7 arg8 arg9 f0 f1 f2 = top (grow (grow (kernelRun0_A.sl.r_31 c arg5 arg7 arg8 arg9 f0 f1 f2) (k0_pay73 (kernelRun0_A.sl.r_6 c arg7 f0) (kernelRun0_A.sl.r_32 c arg5 arg7 arg8 arg9 f0 f1 f2) (kernelRun0_A.sl.r_33 c arg5 arg7 arg8 f0 f1) (kernelRun0_A.sl.v544 c arg9 f2))) (k0_pay75 (kernelRun0_A.sl.r_6 c arg7 f0) (kernelRun0_A.sl.v555 c arg8 f1) (kernelRun0_A.sl.v556 c arg8 f1) (kernelRun0_A.sl.v196 c arg5 arg7 f0) (kernelRun0_A.sl.v564 c arg9 f2) (kernelRun0_A.sl.v570 c arg9 f2))) :=
    grow1213 _ _ _ _ _ _ _ _ _ _
  rw [e, piece12, piece13]
  exact top_upto (upto_grow (n := 13) (by omega) (upto_grow (n := 12) (by omega) (upto12 c arg5 arg7 arg8 arg9 f0 f1 f2) (uH_apply c arg5 arg7 arg8 arg9 f0 f1 f2 12)) (uH_apply c arg5 arg7 arg8 arg9 f0 f1 f2 13)) r

theorem exponent_h (r : Fin 192) (z : Fin 1) :
    kernelRun0_A.sl.r_39 c arg5 arg7 arg8 arg9 f0 f1 f2 (ix2 r z) = kE (amaxS (kH c f0 f1 f2 r)) (tS (amaxS (kH c f0 f1 f2 r))) := by
  have h := pay77 (kernelRun0_A.sl.r_34 c arg5 arg7 arg8 arg9 f0 f1 f2) r z
  rw [largest_h] at h
  rw [← h]
  exact pay81 (kernelRun0_A.sl.r_34 c arg5 arg7 arg8 arg9 f0 f1 f2) (ix2 r z)

theorem scale_h (r : Fin 192) (z : Fin 1) : kScale (kernelRun0_A.sl.r_39 c arg5 arg7 arg8 arg9 f0 f1 f2 (ix2 r z)) = scaleS (amaxS (kH c f0 f1 f2 r)) := by
  rw [exponent_h, scaleK (amaxS_nonneg _)]

end

end Cert.Proof.Ker
-- ==== Proof.KernelOut.lean ====
/- Hand-written, untrusted: THE KERNEL'S FOUR RESULTS over its three operands, each index by the mathematics of Spec.lean. -/
module

public import proofs.«01_k».proof.Proof.KernelUnits

@[expose] public section

set_option maxRecDepth 65536

noncomputable section

namespace Cert.Proof.Ker

open Cert.KernelIdeal Cert.KernelIdeal.Gen Cert.Proof
open Idealize.ShloMosaic Idealize.SL.Sem Idealize.ShloMosaic.Pointwise

section
variable (c : Dev nD) (arg3 : Memref sig .tc .vmem S1x192 .f32) (harg3 : arg3.IsWhole) (arg4 : Memref sig .tc .vmem S192x1792 .fp8e4m3) (harg4 : arg4.IsWhole)
  (arg5 : Memref sig .tc .vmem S192x3584 .fp8e4m3) (harg5 : arg5.IsWhole) (arg6 : Memref sig .tc .vmem S1x192 .f32) (harg6 : arg6.IsWhole)
  (arg7 : Memref sig .tc .vmem S24x8x3584 .bf16) (harg7 : arg7.IsWhole) (arg8 : Memref sig .tc .vmem S3584x3584 .fp8e4m3) (harg8 : arg8.IsWhole)
  (arg9 : Memref sig .tc .vmem S28x128 .f32) (harg9 : arg9.IsWhole) (arg10 : Memref sig .tc .vmem S192x1792 .f32) (harg10 : arg10.IsWhole)
  (f0 : HbBuf0 (F := Ideal) c hbM0_0) (f1 : HbBuf0 (F := Ideal) c hbM0_1) (f2 : HbBuf0 (F := Ideal) c hbM0_2)

/-- The activations' codes. -/
theorem out2 (r : Fin 192) (k : Fin 3584) :
    out0_A_2 c arg3 harg3 arg4 harg4 arg5 harg5 arg6 harg6 arg7 harg7 arg8 harg8 arg9 harg9 arg10 harg10 f0 f1 f2 (ix2 r k) = xcS (kX c f0) r k := by
  unfold out0_A_2
  rw [View.read_writes_junk_apply_eq_canon]
  have h : View.canon (kernelRun0_A.sl.H2_1 c arg7 f0) = k0_pay10 (kernelRun0_A.sl.r c arg7 f0) (kernelRun0_A.sl.r_5 c arg7 f0) 0#32 :=
    View.canon_unit_zero zero2 _ _
  exact (congrFun h (ix2 r k)).trans (stored_codes c arg7 f0 r k)

/-- The gated product's codes. -/
theorem out1 (r : Fin 192) (k : Fin 1792) :
    out0_A_1 c arg3 harg3 arg4 harg4 arg5 harg5 arg6 harg6 arg7 harg7 arg8 harg8 arg9 harg9 arg10 harg10 f0 f1 f2 (ix2 r k)
      = codeS (amaxS (kH c f0 f1 f2 r)) (kH c f0 f1 f2 r k) := by
  unfold out0_A_1
  rw [View.read_writes_junk_apply_eq_canon]
  have h : View.canon (kernelRun0_A c arg3 harg3 arg4 harg4 arg5 harg5 arg6 harg6 arg7 harg7 arg8 harg8 arg9 harg9 arg10 harg10 f0 f1 f2).2.1
      = k0_pay83 (kernelRun0_A.sl.r_39 c arg5 arg7 arg8 arg9 f0 f1 f2) (kernelRun0_A.sl.v698 c arg5 arg7 arg8 arg9 arg10 f0 f1 f2) :=
    View.canon_unit_zero zero2 _ _
  rw [h, pay83, read_back, exponent_h, invK (amaxS_nonneg _)]
  rfl

/-- A row of 192 numbers stored as 128 and then 64 of them. -/
theorem two_parts (L : List (View.Piece (Elt Ideal) S1x192 .f32)) (g : Fin 192 → EReal) (w1 : FVec Ideal S1x128 .f32) (w2 : FVec Ideal S1x64 .f32)
    (hL : L = [⟨Rect.unit ![0, 128] S1x64.size inb_S1x192_S1x64_0_128, w2⟩, ⟨Rect.unit ![0, 0] S1x128.size inb_S1x192_S1x128_0_0, w1⟩])
    (h1 : ∀ (z : Fin 1) (l : Fin 128), w1 (ix2 z l) = g ⟨l.val, by omega⟩) (h2 : ∀ (z : Fin 1) (l : Fin 64), w2 (ix2 z l) = g ⟨128 + l.val, by omega⟩)
    (y : S1x192.Idx) (hc : ∃ p ∈ L, y ∈ p.1.set) : View.canon L y = g (y 1) := by
  refine View.canon_apply_of_pieces (fun j : S1x192.Idx => g (j 1)) L (fun p hp x => ?_) y hc
  subst hL
  simp only [List.mem_cons, List.not_mem_nil, or_false] at hp
  rcases hp with rfl | rfl
  · have e : x = ix2 (x 0) (x 1) := by funext a; fin_cases a <;> rfl
    refine (congrArg w2 e).trans ((h2 (x 0) (x 1)).trans (congrArg g (Fin.ext ?_)))
    show 128 + (x 1).val = 128 + 1 * (x 1).val; omega
  · have e : x = ix2 (x 0) (x 1) := by funext a; fin_cases a <;> rfl
    refine (congrArg w1 e).trans ((h1 (x 0) (x 1)).trans (congrArg g (Fin.ext ?_)))
    show (x 1).val = 0 + 1 * (x 1).val; omega

/-- The activations' scales. -/
theorem out3 (z : Fin 1) (r : Fin 192) :
    out0_A_3 c arg3 harg3 arg4 harg4 arg5 harg5 arg6 harg6 arg7 harg7 arg8 harg8 arg9 harg9 arg10 harg10 f0 f1 f2 (ix2 z r) = scaleS (amaxS (kX c f0 r)) := by
  unfold out0_A_3
  rw [View.read_writes_junk_apply_eq_canon]
  refine two_parts _ (fun r => scaleS (amaxS (kX c f0 r))) (k0_pay11 (kernelRun0_A.sl.r_6 c arg7 f0)) (k0_pay13 (kernelRun0_A.sl.r_7 c arg7 f0)) rfl
    (fun z l => ?_) (fun z l => ?_) (ix2 z r)
    (cover0_A_3 c arg3 harg3 arg4 harg4 arg5 harg5 arg6 harg6 arg7 harg7 arg8 harg8 arg9 harg9 arg10 harg10 f0 f1 f2 (ix2 z r))
  · refine (pay11 (kernelRun0_A.sl.r_6 c arg7 f0) z l ?_).trans (scale c arg7 f0 _ _)
    rw [scale]; exact scaleS_nonneg (amaxS_nonneg _)
  · refine (pay13 (kernelRun0_A.sl.r_6 c arg7 f0) z l ?_).trans (scale c arg7 f0 _ _)
    rw [scale]; exact scaleS_nonneg (amaxS_nonneg _)

/-- The gated product's scales. -/
theorem out0 (z : Fin 1) (r : Fin 192) :
    out0_A_0 c arg3 harg3 arg4 harg4 arg5 harg5 arg6 harg6 arg7 harg7 arg8 harg8 arg9 harg9 arg10 harg10 f0 f1 f2 (ix2 z r)
      = scaleS (amaxS (kH c f0 f1 f2 r)) := by
  unfold out0_A_0
  rw [View.read_writes_junk_apply_eq_canon]
  refine two_parts _ (fun r => scaleS (amaxS (kH c f0 f1 f2 r)))
    (k0_pay1 (kernelRun0_A.sl.r_41 c arg5 arg7 arg8 arg9 f0 f1 f2) (kernelRun0_A.sl.v710))
    (k0_pay2 (kernelRun0_A.sl.r_40 c arg5 arg7 arg8 arg9 f0 f1 f2)) rfl
    (fun z l => ?_) (fun z l => ?_) (ix2 z r)
    (cover0_A_0 c arg3 harg3 arg4 harg4 arg5 harg5 arg6 harg6 arg7 harg7 arg8 harg8 arg9 harg9 arg10 harg10 f0 f1 f2 (ix2 z r))
  · refine (pay1 (kernelRun0_A.sl.r_39 c arg5 arg7 arg8 arg9 f0 f1 f2) z l ?_).trans (scale_h c arg5 arg7 arg8 arg9 f0 f1 f2 _ _)
    rw [scale_h]; exact scaleS_nonneg (amaxS_nonneg _)
  · have e (r : Fin 192) : kernelRun0_A.sl.r_40 c arg5 arg7 arg8 arg9 f0 f1 f2 (ix2 r 0) = scaleS (amaxS (kH c f0 f1 f2 r)) :=
      (pay82 (kernelRun0_A.sl.r_39 c arg5 arg7 arg8 arg9 f0 f1 f2) (ix2 r 0)).trans (scale_h c arg5 arg7 arg8 arg9 f0 f1 f2 r 0)
    refine (pay2 (kernelRun0_A.sl.r_40 c arg5 arg7 arg8 arg9 f0 f1 f2) z l ?_).trans (e _)
    rw [e]; exact scaleS_nonneg (amaxS_nonneg _)

end

end Cert.Proof.Ker
-- ==== Proof.KernelFinal.lean ====
/- Hand-written, untrusted: THE KERNEL PROGRAM'S RESULTS over its arguments: the two reshapes before the call, and the four
   arrays after it. -/
module

public import proofs.«01_k».proof.Proof.KernelOut
public import proofs.«01_k».proof.Proof.Gen.KernelIdeal.Value

@[expose] public section

set_option maxRecDepth 65536

noncomputable section

namespace Cert.Proof.Ker

open Cert.KernelIdeal Cert.KernelIdeal.Gen Cert.Proof
open Idealize.ShloMosaic Idealize.ShloMosaic.TcCoe Idealize.ShloMosaic.StableHlo Idealize.SL.Sem Idealize.ShloMosaic.Pointwise

variable (m : (ℓ : Loc nD τ sig) → Buf (Elt Ideal) ℓ) (c : Dev nD)

/-- The arguments: the activations, the weights, the weights' scales. -/
abbrev a0 : Vec Ideal S192x1x3584 .bf16 := m ((c : Thread nD τ).loc main_arg0)
abbrev a1 : Vec Ideal S3584x3584 .fp8e4m3 := m ((c : Thread nD τ).loc main_arg1)
abbrev a2 : Vec Ideal S3584 .f32 := m ((c : Thread nD τ).loc main_arg2)

theorem v0_eq : V m c main_v0 = shapeCast S24x8x3584 (a0 m c) shapeCasts_S192x1x3584_S24x8x3584 := by
  show after hostOps0 _ (main_v0 : DevRef τ sig) = _
  after_results
  rfl

theorem v1_eq : V m c main_v1 = shapeCast S28x128 (a2 m c) shapeCasts_S3584_S28x128 := by
  show after hostOps0 _ (main_v1 : DevRef τ sig) = _
  after_results
  rfl

theorem kX_eq : kX c (V m c main_v0) = fun r k => a0 m c (ix3 r 0 k) := by
  funext r k
  show (V m c main_v0) (ix3 _ _ k) = _
  rw [v0_eq]
  pointwise []

theorem kS_eq : kS c (V m c main_v1) = fun l => a2 m c (ix1 l) := by
  funext l
  show (V m c main_v1) (ix2 _ _) = _
  rw [v1_eq]
  pointwise []

theorem kH_eq : kH c (V m c main_v0) (V m c main_arg1) (V m c main_v1)
    = hS (fun r k => a0 m c (ix3 r 0 k)) (fun k l => a1 m c (ix2 k l)) (fun l => a2 m c (ix1 l)) := by
  have hw : kW c (V m c main_arg1) = fun k l => a1 m c (ix2 k l) := by
    rw [V_main_arg1 m c]
    rfl
  unfold kH
  rw [kX_eq, kS_eq, hw]

/-! ## The arrays after the call: every result is one whole block -/

/-- The one point of the grid of no axis. -/
abbrev t0 : Fin cfg0.N := ⟨0, by decide⟩

theorem idx_facts : ∀ t : Fin cfg0.N, win0_0.index t (0 : Fin 2) = 0 ∧ win0_0.index t (1 : Fin 2) = 0 ∧ win0_1.index t (0 : Fin 2) = 0
    ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem emb0 (y : S1x192.Idx) : ((cfg0.win 0).blk t0).view.emb y = y := by
  obtain ⟨a0, a1, b0, b1, c0, c1, d0, d1⟩ := idx_facts t0
  funext a; apply Fin.ext
  match a with
  | ⟨0, _⟩ => show win0_0.index t0 (0 : Fin 2) * 1 + 1 * (y 0).val = (y 0).val; omega
  | ⟨1, _⟩ => show win0_0.index t0 (1 : Fin 2) * 192 + 1 * (y 1).val = (y 1).val; omega

theorem emb1 (y : S192x1792.Idx) : ((cfg0.win 1).blk t0).view.emb y = y := by
  obtain ⟨a0, a1, b0, b1, c0, c1, d0, d1⟩ := idx_facts t0
  funext a; apply Fin.ext
  match a with
  | ⟨0, _⟩ => show win0_1.index t0 (0 : Fin 2) * 192 + 1 * (y 0).val = (y 0).val; omega
  | ⟨1, _⟩ => show win0_1.index t0 (1 : Fin 2) * 1792 + 1 * (y 1).val = (y 1).val; omega

theorem emb2 (y : S192x3584.Idx) : ((cfg0.win 2).blk t0).view.emb y = y := by
  obtain ⟨a0, a1, b0, b1, c0, c1, d0, d1⟩ := idx_facts t0
  funext a; apply Fin.ext
  match a with
  | ⟨0, _⟩ => show win0_2.index t0 (0 : Fin 2) * 192 + 1 * (y 0).val = (y 0).val; omega
  | ⟨1, _⟩ => show win0_2.index t0 (1 : Fin 2) * 3584 + 1 * (y 1).val = (y 1).val; omega

theorem emb3 (y : S1x192.Idx) : ((cfg0.win 3).blk t0).view.emb y = y := by
  obtain ⟨a0, a1, b0, b1, c0, c1, d0, d1⟩ := idx_facts t0
  funext a; apply Fin.ext
  match a with
  | ⟨0, _⟩ => show win0_3.index t0 (0 : Fin 2) * 1 + 1 * (y 0).val = (y 0).val; omega
  | ⟨1, _⟩ => show win0_3.index t0 (1 : Fin 2) * 192 + 1 * (y 1).val = (y 1).val; omega

/-- The activations' rows, and the gated product, of the arguments. -/
abbrev aX : Fin 192 → Fin 3584 → EReal := fun r k => a0 m c (ix3 r 0 k)
abbrev aH : Fin 192 → Fin 1792 → EReal := hS (aX m c) (fun k l => a1 m c (ix2 k l)) (fun l => a2 m c (ix1 l))

/-- The scales of the gated product. -/
theorem final0 (z : Fin 1) (r : Fin 192) : (dats m 0 c).arrAt 0 cfg0.N (ix2 z r) = scaleS (amaxS (aH m c r)) := by
  have b := congrFun (Cert.KernelIdeal.Value.blocks0 m c t0 rfl) (ix2 z r)
  rw [Cert.KernelIdeal.Value.flushed0_A] at b
  have b' : (dats m 0 c).arrAt 0 cfg0.N (((cfg0.win 0).blk t0).view.emb (ix2 z r)) = _ := b
  rw [emb0] at b'
  refine (b'.trans (out0 c (ms0_0 t0) (hs0_0 t0) (ms0_1 t0) (hs0_1 t0) (ms0_2 t0) (hs0_2 t0) (ms0_3 t0) (hs0_3 t0) scM0_0 (Memref.isWhole_whole _)
    scM0_1 (Memref.isWhole_whole _) scM0_2 (Memref.isWhole_whole _) scM0_3 (Memref.isWhole_whole _) (V m c main_v0) (V m c main_arg1) (V m c main_v1) z r)).trans ?_
  rw [kH_eq]

/-- The codes of the gated product. -/
theorem final1 (r : Fin 192) (k : Fin 1792) : (dats m 0 c).arrAt 1 cfg0.N (ix2 r k) = codeS (amaxS (aH m c r)) (aH m c r k) := by
  have b := congrFun (Cert.KernelIdeal.Value.blocks1 m c t0 rfl) (ix2 r k)
  rw [Cert.KernelIdeal.Value.flushed1_A] at b
  have b' : (dats m 0 c).arrAt 1 cfg0.N (((cfg0.win 1).blk t0).view.emb (ix2 r k)) = _ := b
  rw [emb1] at b'
  refine (b'.trans (out1 c (ms0_0 t0) (hs0_0 t0) (ms0_1 t0) (hs0_1 t0) (ms0_2 t0) (hs0_2 t0) (ms0_3 t0) (hs0_3 t0) scM0_0 (Memref.isWhole_whole _)
    scM0_1 (Memref.isWhole_whole _) scM0_2 (Memref.isWhole_whole _) scM0_3 (Memref.isWhole_whole _) (V m c main_v0) (V m c main_arg1) (V m c main_v1) r k)).trans ?_
  rw [kH_eq]

/-- The codes of the activations. -/
theorem final2 (r : Fin 192) (k : Fin 3584) : (dats m 0 c).arrAt 2 cfg0.N (ix2 r k) = xcS (aX m c) r k := by
  have b := congrFun (Cert.KernelIdeal.Value.blocks2 m c t0 rfl) (ix2 r k)
  rw [Cert.KernelIdeal.Value.flushed2_A] at b
  have b' : (dats m 0 c).arrAt 2 cfg0.N (((cfg0.win 2).blk t0).view.emb (ix2 r k)) = _ := b
  rw [emb2] at b'
  refine (b'.trans (out2 c (ms0_0 t0) (hs0_0 t0) (ms0_1 t0) (hs0_1 t0) (ms0_2 t0) (hs0_2 t0) (ms0_3 t0) (hs0_3 t0) scM0_0 (Memref.isWhole_whole _)
    scM0_1 (Memref.isWhole_whole _) scM0_2 (Memref.isWhole_whole _) scM0_3 (Memref.isWhole_whole _) (V m c main_v0) (V m c main_arg1) (V m c main_v1) r k)).trans ?_
  rw [kX_eq]

/-- The scales of the activations. -/
theorem final3 (z : Fin 1) (r : Fin 192) : (dats m 0 c).arrAt 3 cfg0.N (ix2 z r) = scaleS (amaxS (aX m c r)) := by
  have b := congrFun (Cert.KernelIdeal.Value.blocks3 m c t0 rfl) (ix2 z r)
  rw [Cert.KernelIdeal.Value.flushed3_A] at b
  have b' : (dats m 0 c).arrAt 3 cfg0.N (((cfg0.win 3).blk t0).view.emb (ix2 z r)) = _ := b
  rw [emb3] at b'
  refine (b'.trans (out3 c (ms0_0 t0) (hs0_0 t0) (ms0_1 t0) (hs0_1 t0) (ms0_2 t0) (hs0_2 t0) (ms0_3 t0) (hs0_3 t0) scM0_0 (Memref.isWhole_whole _)
    scM0_1 (Memref.isWhole_whole _) scM0_2 (Memref.isWhole_whole _) scM0_3 (Memref.isWhole_whole _) (V m c main_v0) (V m c main_arg1) (V m c main_v1) z r)).trans ?_
  rw [kX_eq]

end Cert.Proof.Ker
-- ==== Proof.ReferenceOps.lean ====
/- Hand-written, untrusted: WHAT THE REFERENCE'S BODY COMPUTES, from its three whole blocks to the mathematics of Spec.lean,
   result by result (`out3` .. `out6`). -/
module

public import proofs.«01_k».proof.Proof.Gen.ReferenceIdeal.Frame
public import proofs.«01_k».proof.Proof.Spec
public import Idealize.ShloMosaic.Lib.Pointwise

@[expose] public section

set_option maxRecDepth 65536

noncomputable section

namespace Cert.Proof.Ref

open Cert.ReferenceIdeal Cert.ReferenceIdeal.Gen Cert.Proof
open Idealize.ShloMosaic Idealize.SL.Sem Idealize.ShloMosaic.Pointwise

theorem pay1 (x : Vec Ideal S192x3584 .bf16) (r : Fin 192) (k : Fin 3584) : k0_pay1 x (ix2 r k) = x (ix2 r k) := by
  pointwise [k0_pay1]

theorem pay2 (x : Vec Ideal S192x3584 .bf16) (r : Fin 192) (z : Fin 1) : k0_pay2 x (ix2 r z) = amaxS fun k => x (ix2 r k) := by
  pointwise [k0_pay2, k0_pay1]
  rfl

theorem pay3 (x : Vec Ideal S192x3584 .bf16) (r : Fin 192) : k0_pay3 x (ix1 r) = oneHot (tS (k0_pay2 x (ix2 r 0))) := by
  pointwise [k0_pay3]
  unfold oneHot
  simp only [hot_cases, ldx_cases]
  rfl

/-- The exponent, in the three places that the body selects it. -/
theorem pay4 (v5 : FVec Ideal S192x1 .f32) (v43 : FVec Ideal S192 .f32) (r : Fin 192) (z : Fin 1) :
    k0_pay4 v5 v43 (ix2 r z) = if v5 (ix2 r z) = 0 then 0 else v43 (ix1 r) := by
  pointwise [k0_pay4]

theorem pay5 (v5 : FVec Ideal S192x1 .f32) (v43 : FVec Ideal S192 .f32) (r : Fin 192) (z : Fin 1) :
    k0_pay5 v5 v43 (ix2 r z) = ldx (if v5 (ix2 r z) = 0 then 0 else v43 (ix1 r)) := by
  rw [ldx_cases]
  pointwise [k0_pay5, k0_pay4]

theorem pay6 (v2 : FVec Ideal S192x3584 .f32) (v5 : FVec Ideal S192x1 .f32) (v43 : FVec Ideal S192 .f32) (r : Fin 192) (k : Fin 3584) :
    k0_pay6 v2 v5 v43 (ix2 r k) = clampS (v2 (ix2 r k) * ldx (0 - if v5 (ix2 r 0) = 0 then 0 else v43 (ix1 r))) := by
  rw [ldx_cases]
  pointwise [k0_pay6, k0_pay4]
  rfl

theorem pay8 (v2 : FVec Ideal S192x3584 .f32) (v5 : FVec Ideal S192x1 .f32) (v43 : FVec Ideal S192 .f32) (w : Vec Ideal S3584x3584 .fp8e4m3)
    (s : Vec Ideal S1x3584 .f32) (r : Fin 192) (j : Fin 1792) :
    k0_pay8 v2 v5 v43 w s (ix2 r j) = (∑ k, k0_pay6 v2 v5 v43 (ix2 r k) * w (ix2 k ⟨j.val, by omega⟩)) * k0_pay5 v5 v43 (ix2 r 0)
      * s (ix2 0 ⟨j.val, by omega⟩) := by
  pointwise [k0_pay8, k0_pay7]

theorem pay9 (v2 : FVec Ideal S192x3584 .f32) (v5 : FVec Ideal S192x1 .f32) (v43 : FVec Ideal S192 .f32) (w : Vec Ideal S3584x3584 .fp8e4m3)
    (s : Vec Ideal S1x3584 .f32) (r : Fin 192) (j : Fin 1792) :
    k0_pay9 v2 v5 v43 w s (ix2 r j) = (∑ k, k0_pay6 v2 v5 v43 (ix2 r k) * w (ix2 k ⟨1792 + j.val, by omega⟩)) * k0_pay5 v5 v43 (ix2 r 0)
      * s (ix2 0 ⟨1792 + j.val, by omega⟩) := by
  pointwise [k0_pay9, k0_pay7]

theorem pay10 (a b : FVec Ideal S192x1792 .f32) (r : Fin 192) (j : Fin 1792) : k0_pay10 a b (ix2 r j) = gateS (a (ix2 r j)) (b (ix2 r j)) := by
  pointwise [k0_pay10]
  rfl

theorem pay11 (a b : FVec Ideal S192x1792 .f32) (r : Fin 192) (z : Fin 1) :
    k0_pay11 a b (ix2 r z) = amaxS fun j => k0_pay10 a b (ix2 r j) := by
  pointwise [k0_pay11]
  rfl

theorem pay12 (a b : FVec Ideal S192x1792 .f32) (r : Fin 192) (z : Fin 1) : k0_pay12 a b (ix2 r z) = oneHot (tS (k0_pay11 a b (ix2 r 0))) := by
  pointwise [k0_pay12]
  unfold oneHot
  simp only [hot_cases, ldx_cases]
  rfl

theorem pay14 (h : FVec Ideal S192x1792 .f32) (a e : FVec Ideal S192x1 .f32) (r : Fin 192) (j : Fin 1792) :
    k0_pay14 h a e (Scalar.ofBits .f32 0x00000000#32) (ix2 r j) = clampS (h (ix2 r j) * ldx (0 - if a (ix2 r 0) = 0 then 0 else e (ix2 r 0))) := by
  rw [ldx_cases]
  pointwise [k0_pay14, k0_pay13]
  rfl

theorem pay15 (a e : FVec Ideal S192x1 .f32) (r : Fin 192) (z : Fin 1) :
    k0_pay15 a e (Scalar.ofBits .f32 0x00000000#32) (ix2 z r) = ldx (if a (ix2 r 0) = 0 then 0 else e (ix2 r 0)) := by
  rw [ldx_cases]
  pointwise [k0_pay15, k0_pay13]

theorem pay16 (v : FVec Ideal S192x1 .f32) (r : Fin 192) (z : Fin 1) : k0_pay16 v (ix2 z r) = v (ix2 r 0) := by
  pointwise [k0_pay16]

/-! ## The four results -/

section
variable (x0 : Vec Ideal S192x3584 .bf16) (x1 : Vec Ideal S3584x3584 .fp8e4m3) (x2 : Vec Ideal S1x3584 .f32)

/-- The blocks as functions of row and column. -/
abbrev X : Fin 192 → Fin 3584 → EReal := fun r k => x0 (ix2 r k)
abbrev W : Fin 3584 → Fin 3584 → EReal := fun k l => x1 (ix2 k l)
abbrev S : Fin 3584 → EReal := fun l => x2 (ix2 0 l)

theorem zero2 : (![0, 0] : Fin 2 → ℕ) = fun _ => 0 := by funext a; fin_cases a <;> rfl

theorem ld0 : View.ld x0 r0_0 = x0 := View.ld_unit_zero zero2 _ _
theorem ld1 : View.ld x1 r0_1 = x1 := View.ld_unit_zero zero2 _ _
theorem ld2 : View.ld x2 r0_2 = x2 := View.ld_unit_zero zero2 _ _

theorem codes (r : Fin 192) (k : Fin 3584) : k0_pay6 (k0_pay1 x0) (k0_pay2 x0) (k0_pay3 x0) (ix2 r k) = xcS (X x0) r k := by
  rw [pay6, pay1, pay3, ← rE_cases, pay2]; rfl

theorem scales (r : Fin 192) (z : Fin 1) : k0_pay5 (k0_pay2 x0) (k0_pay3 x0) (ix2 r z) = scaleS (amaxS (X x0 r)) := by
  obtain rfl : z = 0 := Subsingleton.elim _ _
  rw [pay5, pay3, ← rE_cases, pay2]; rfl

theorem gated (r : Fin 192) (j : Fin 1792) :
    k0_pay10 (k0_pay20 x0 x1 x2) (k0_pay21 x0 x1 x2) (ix2 r j) = hS (X x0) (W x1) (S x2) r j := by
  unfold k0_pay20 k0_pay21 k0_pay17 k0_pay18 k0_pay19
  rw [ld0, ld1, ld2, pay10, pay8, pay9, scales]
  simp only [codes]
  rfl

theorem gated_amax (r : Fin 192) (z : Fin 1) : k0_pay22 x0 x1 x2 (ix2 r z) = amaxS (hS (X x0) (W x1) (S x2) r) := by
  unfold k0_pay22
  rw [pay11]
  simp only [gated]

theorem gated_exp (r : Fin 192) :
    (if k0_pay22 x0 x1 x2 (ix2 r 0) = 0 then 0 else k0_pay23 x0 x1 x2 (ix2 r 0)) = expS (amaxS (hS (X x0) (W x1) (S x2) r)) := by
  unfold k0_pay23
  rw [pay12, show k0_pay11 (k0_pay20 x0 x1 x2) (k0_pay21 x0 x1 x2) (ix2 r 0) = k0_pay22 x0 x1 x2 (ix2 r 0) from rfl, gated_amax, ← rE_cases]
  rfl

/-- The scales of the gated product. -/
theorem out3 (r : Fin 192) (z : Fin 1) : out0_3 x0 x1 x2 (ix2 z r) = scaleS (amaxS (hS (X x0) (W x1) (S x2) r)) := by
  unfold out0_3
  rw [View.canon_unit_zero zero2 inb_S1x192_S1x192_0_0, pay15, gated_exp]
  rfl

/-- The codes of the gated product. -/
theorem out4 (r : Fin 192) (j : Fin 1792) :
    out0_4 x0 x1 x2 (ix2 r j) = codeS (amaxS (hS (X x0) (W x1) (S x2) r)) (hS (X x0) (W x1) (S x2) r j) := by
  unfold out0_4
  rw [View.canon_unit_zero zero2 inb_S192x1792_S192x1792_0_0, pay14, gated_exp, gated]
  rfl

/-- The codes of the activations. -/
theorem out5 (r : Fin 192) (k : Fin 3584) : out0_5 x0 x1 x2 (ix2 r k) = xcS (X x0) r k := by
  unfold_out out0_5
  rw [View.canon_unit_zero zero2 inb_S192x3584_S192x3584_0_0, ld0, codes]

/-- The scales of the activations. -/
theorem out6 (r : Fin 192) (z : Fin 1) : out0_6 x0 x1 x2 (ix2 z r) = scaleS (amaxS (X x0 r)) := by
  unfold_out out0_6
  rw [View.canon_unit_zero zero2 inb_S1x192_S1x192_0_0, pay16, ld0, scales]

end

end Cert.Proof.Ref
-- ==== Proof.ReferenceFinal.lean ====
/- Hand-written, untrusted: THE REFERENCE PROGRAM'S RESULTS over its arguments: the two reshapes before the call, its input
   blocks, and the four arrays after it. -/
module

public import proofs.«01_k».proof.Proof.ReferenceOps
public import proofs.«01_k».proof.Proof.Gen.ReferenceIdeal.Value

@[expose] public section

set_option maxRecDepth 65536

noncomputable section

namespace Cert.Proof.Ref

open Cert.ReferenceIdeal Cert.ReferenceIdeal.Gen Cert.Proof
open Idealize.ShloMosaic Idealize.ShloMosaic.TcCoe Idealize.ShloMosaic.StableHlo Idealize.SL.Sem Idealize.ShloMosaic.Pointwise

variable (m : (ℓ : Loc nD τ sig) → Buf (Elt Ideal) ℓ) (c : Dev nD)

/-- The arguments: the activations, the weights, the weights' scales. -/
abbrev a0 : Vec Ideal S192x1x3584 .bf16 := m ((c : Thread nD τ).loc main_arg0)
abbrev a1 : Vec Ideal S3584x3584 .fp8e4m3 := m ((c : Thread nD τ).loc main_arg1)
abbrev a2 : Vec Ideal S3584 .f32 := m ((c : Thread nD τ).loc main_arg2)

theorem v0_eq : V m c main_v0 = shapeCast S192x3584 (a0 m c) shapeCasts_S192x1x3584_S192x3584 := by
  show after hostOps0 _ (main_v0 : DevRef τ sig) = _
  after_results
  rfl

theorem v1_eq : V m c main_v1 = shapeCast S1x3584 (a2 m c) shapeCasts_S3584_S1x3584 := by
  show after hostOps0 _ (main_v1 : DevRef τ sig) = _
  after_results
  rfl

/-! ## Every operand and every result is one whole block -/

/-- The one point of the grid of no axis. -/
abbrev t0 : Fin cfg0.N := ⟨0, by decide⟩

theorem idx_facts : ∀ t : Fin cfg0.N, win0_0.index t (0 : Fin 2) = 0 ∧ win0_0.index t (1 : Fin 2) = 0 ∧ win0_1.index t (0 : Fin 2) = 0
    ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0
    ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem emb0 (y : S192x3584.Idx) : ((cfg0.win 0).blk t0).view.emb y = y := by
  obtain ⟨a0, a1, b0, b1, c0, c1, d0, d1, e0, e1, f0, f1, g0, g1⟩ := idx_facts t0
  funext a; apply Fin.ext
  match a with
  | ⟨0, _⟩ => show win0_0.index t0 (0 : Fin 2) * 192 + 1 * (y 0).val = (y 0).val; omega
  | ⟨1, _⟩ => show win0_0.index t0 (1 : Fin 2) * 3584 + 1 * (y 1).val = (y 1).val; omega

theorem emb1 (y : S3584x3584.Idx) : ((cfg0.win 1).blk t0).view.emb y = y := by
  obtain ⟨a0, a1, b0, b1, c0, c1, d0, d1, e0, e1, f0, f1, g0, g1⟩ := idx_facts t0
  funext a; apply Fin.ext
  match a with
  | ⟨0, _⟩ => show win0_1.index t0 (0 : Fin 2) * 3584 + 1 * (y 0).val = (y 0).val; omega
  | ⟨1, _⟩ => show win0_1.index t0 (1 : Fin 2) * 3584 + 1 * (y 1).val = (y 1).val; omega

theorem emb2 (y : S1x3584.Idx) : ((cfg0.win 2).blk t0).view.emb y = y := by
  obtain ⟨a0, a1, b0, b1, c0, c1, d0, d1, e0, e1, f0, f1, g0, g1⟩ := idx_facts t0
  funext a; apply Fin.ext
  match a with
  | ⟨0, _⟩ => show win0_2.index t0 (0 : Fin 2) * 1 + 1 * (y 0).val = (y 0).val; omega
  | ⟨1, _⟩ => show win0_2.index t0 (1 : Fin 2) * 3584 + 1 * (y 1).val = (y 1).val; omega

theorem emb3 (y : S1x192.Idx) : ((cfg0.win 3).blk t0).view.emb y = y := by
  obtain ⟨a0, a1, b0, b1, c0, c1, d0, d1, e0, e1, f0, f1, g0, g1⟩ := idx_facts t0
  funext a; apply Fin.ext
  match a with
  | ⟨0, _⟩ => show win0_3.index t0 (0 : Fin 2) * 1 + 1 * (y 0).val = (y 0).val; omega
  | ⟨1, _⟩ => show win0_3.index t0 (1 : Fin 2) * 192 + 1 * (y 1).val = (y 1).val; omega

theorem emb4 (y : S192x1792.Idx) : ((cfg0.win 4).blk t0).view.emb y = y := by
  obtain ⟨a0, a1, b0, b1, c0, c1, d0, d1, e0, e1, f0, f1, g0, g1⟩ := idx_facts t0
  funext a; apply Fin.ext
  match a with
  | ⟨0, _⟩ => show win0_4.index t0 (0 : Fin 2) * 192 + 1 * (y 0).val = (y 0).val; omega
  | ⟨1, _⟩ => show win0_4.index t0 (1 : Fin 2) * 1792 + 1 * (y 1).val = (y 1).val; omega

theorem emb5 (y : S192x3584.Idx) : ((cfg0.win 5).blk t0).view.emb y = y := by
  obtain ⟨a0, a1, b0, b1, c0, c1, d0, d1, e0, e1, f0, f1, g0, g1⟩ := idx_facts t0
  funext a; apply Fin.ext
  match a with
  | ⟨0, _⟩ => show win0_5.index t0 (0 : Fin 2) * 192 + 1 * (y 0).val = (y 0).val; omega
  | ⟨1, _⟩ => show win0_5.index t0 (1 : Fin 2) * 3584 + 1 * (y 1).val = (y 1).val; omega

theorem emb6 (y : S1x192.Idx) : ((cfg0.win 6).blk t0).view.emb y = y := by
  obtain ⟨a0, a1, b0, b1, c0, c1, d0, d1, e0, e1, f0, f1, g0, g1⟩ := idx_facts t0
  funext a; apply Fin.ext
  match a with
  | ⟨0, _⟩ => show win0_6.index t0 (0 : Fin 2) * 1 + 1 * (y 0).val = (y 0).val; omega
  | ⟨1, _⟩ => show win0_6.index t0 (1 : Fin 2) * 192 + 1 * (y 1).val = (y 1).val; omega

theorem X_eq : X (iblk m c 0 t0) = fun r k => a0 m c (ix3 r 0 k) := by
  funext r k
  show V m c main_v0 (((cfg0.win 0).blk t0).view.emb (ix2 r k)) = _
  rw [emb0, v0_eq]
  pointwise []

theorem W_eq : W (iblk m c 1 t0) = fun k l => a1 m c (ix2 k l) := by
  funext k l
  show V m c main_arg1 (((cfg0.win 1).blk t0).view.emb (ix2 k l)) = _
  rw [emb1, V_main_arg1]

theorem S_eq : S (iblk m c 2 t0) = fun l => a2 m c (ix1 l) := by
  funext l
  show V m c main_v1 (((cfg0.win 2).blk t0).view.emb (ix2 0 l)) = _
  rw [emb2, v1_eq]
  pointwise []

/-- The activations' rows, and the gated product, of the arguments. -/
abbrev aX : Fin 192 → Fin 3584 → EReal := fun r k => a0 m c (ix3 r 0 k)
abbrev aH : Fin 192 → Fin 1792 → EReal := hS (aX m c) (fun k l => a1 m c (ix2 k l)) (fun l => a2 m c (ix1 l))

/-- The scales of the gated product. -/
theorem final3 (z : Fin 1) (r : Fin 192) : (dats m 0 c).arrAt 3 cfg0.N (ix2 z r) = scaleS (amaxS (aH m c r)) := by
  have b := congrFun (Cert.ReferenceIdeal.Value.blocks3 m c t0 rfl) (ix2 z r)
  rw [Cert.ReferenceIdeal.Value.flushed3] at b
  have b' : (dats m 0 c).arrAt 3 cfg0.N (((cfg0.win 3).blk t0).view.emb (ix2 z r)) = _ := b
  rw [emb3] at b'
  refine (b'.trans (out3 (iblk m c 0 t0) (iblk m c 1 t0) (iblk m c 2 t0) r z)).trans ?_
  rw [X_eq, W_eq, S_eq]

/-- The codes of the gated product. -/
theorem final4 (r : Fin 192) (k : Fin 1792) : (dats m 0 c).arrAt 4 cfg0.N (ix2 r k) = codeS (amaxS (aH m c r)) (aH m c r k) := by
  have b := congrFun (Cert.ReferenceIdeal.Value.blocks4 m c t0 rfl) (ix2 r k)
  rw [Cert.ReferenceIdeal.Value.flushed4] at b
  have b' : (dats m 0 c).arrAt 4 cfg0.N (((cfg0.win 4).blk t0).view.emb (ix2 r k)) = _ := b
  rw [emb4] at b'
  refine (b'.trans (out4 (iblk m c 0 t0) (iblk m c 1 t0) (iblk m c 2 t0) r k)).trans ?_
  rw [X_eq, W_eq, S_eq]

/-- The codes of the activations. -/
theorem final5 (r : Fin 192) (k : Fin 3584) : (dats m 0 c).arrAt 5 cfg0.N (ix2 r k) = xcS (aX m c) r k := by
  have b := congrFun (Cert.ReferenceIdeal.Value.blocks5 m c t0 rfl) (ix2 r k)
  rw [Cert.ReferenceIdeal.Value.flushed5] at b
  have b' : (dats m 0 c).arrAt 5 cfg0.N (((cfg0.win 5).blk t0).view.emb (ix2 r k)) = _ := b
  rw [emb5] at b'
  refine (b'.trans (out5 (iblk m c 0 t0) (iblk m c 1 t0) (iblk m c 2 t0) r k)).trans ?_
  rw [X_eq]

/-- The scales of the activations. -/
theorem final6 (z : Fin 1) (r : Fin 192) : (dats m 0 c).arrAt 6 cfg0.N (ix2 z r) = scaleS (amaxS (aX m c r)) := by
  have b := congrFun (Cert.ReferenceIdeal.Value.blocks6 m c t0 rfl) (ix2 z r)
  rw [Cert.ReferenceIdeal.Value.flushed6] at b
  have b' : (dats m 0 c).arrAt 6 cfg0.N (((cfg0.win 6).blk t0).view.emb (ix2 z r)) = _ := b
  rw [emb6] at b'
  refine (b'.trans (out6 (iblk m c 0 t0) (iblk m c 1 t0) (iblk m c 2 t0) r z)).trans ?_
  rw [X_eq]

end Cert.Proof.Ref
-- ==== Proof.Equation.lean ====
/- Hand-written, untrusted: THE EQUATION: on the same arguments the kernel's four arrays are the reference's. -/
module

public import proofs.«01_k».proof.Proof.KernelFinal
public import proofs.«01_k».proof.Proof.ReferenceFinal

@[expose] public section

noncomputable section

namespace Cert.Proof

open Idealize.ShloMosaic Idealize.ShloMosaic.TcCoe Idealize.SL.Sem Idealize.ShloMosaic.Pointwise

/-- Two arrays of two axes agree when they agree at every pair of coordinates. -/
theorem ext2 {a b : ℕ} {α : Type} {f g : (⟨2, ![a, b]⟩ : Shape).Idx → α} (h : ∀ (i : Fin a) (j : Fin b), f (ix2 i j) = g (ix2 i j)) : f = g := by
  funext y
  have e : y = ix2 (y 0) (y 1) := by funext a; fin_cases a <;> rfl
  rw [e]
  exact h (y 0) (y 1)

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs' arguments are the same. -/
def Same : Prop := Ref.a0 m' c = Ker.a0 m c ∧ Ref.a1 m' c = Ker.a1 m c ∧ Ref.a2 m' c = Ker.a2 m c

variable {m m' c}

theorem same_X (h : Same m m' c) : Ref.aX m' c = Ker.aX m c := by
  unfold Ref.aX Ker.aX
  rw [h.1]

theorem same_H (h : Same m m' c) : Ref.aH m' c = Ker.aH m c := by
  unfold Ref.aH Ker.aH
  rw [same_X h, h.2.1, h.2.2]

theorem eq0 (h : Same m m' c) : (ReferenceIdeal.Gen.dats m' 0 c).arrAt 3 ReferenceIdeal.cfg0.N = (KernelIdeal.Gen.dats m 0 c).arrAt 0 KernelIdeal.cfg0.N :=
  ext2 (a := 1) (b := 192) fun z r => (Ref.final3 m' c z r).trans ((congrArg (fun H : Fin 192 → Fin 1792 → EReal => scaleS (amaxS (H r))) (same_H h)).trans (Ker.final0 m c z r).symm)

theorem eq1 (h : Same m m' c) : (ReferenceIdeal.Gen.dats m' 0 c).arrAt 4 ReferenceIdeal.cfg0.N = (KernelIdeal.Gen.dats m 0 c).arrAt 1 KernelIdeal.cfg0.N :=
  ext2 (a := 192) (b := 1792) fun r k => (Ref.final4 m' c r k).trans ((congrArg (fun H : Fin 192 → Fin 1792 → EReal => codeS (amaxS (H r)) (H r k)) (same_H h)).trans (Ker.final1 m c r k).symm)

theorem eq2 (h : Same m m' c) : (ReferenceIdeal.Gen.dats m' 0 c).arrAt 5 ReferenceIdeal.cfg0.N = (KernelIdeal.Gen.dats m 0 c).arrAt 2 KernelIdeal.cfg0.N :=
  ext2 (a := 192) (b := 3584) fun r k => (Ref.final5 m' c r k).trans ((congrArg (fun X : Fin 192 → Fin 3584 → EReal => xcS X r k) (same_X h)).trans (Ker.final2 m c r k).symm)

theorem eq3 (h : Same m m' c) : (ReferenceIdeal.Gen.dats m' 0 c).arrAt 6 ReferenceIdeal.cfg0.N = (KernelIdeal.Gen.dats m 0 c).arrAt 3 KernelIdeal.cfg0.N :=
  ext2 (a := 1) (b := 192) fun z r => (Ref.final6 m' c z r).trans ((congrArg (fun X : Fin 192 → Fin 3584 → EReal => scaleS (amaxS (X r))) (same_X h)).trans (Ker.final3 m c z r).symm)

end

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: each of the three programs runs from any memory to an end that keeps its arguments and leaves every
    semaphore at zero; the idealised kernel keeps the kernel's declared changes; and the idealised kernel and the reference
    leave the same four arrays on the same arguments (Proof/Equation.lean). -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial,
  fun m ρ m' ρ' _ hag =>
    ⟨fun c => (Cert.KernelIdeal.Gen.dats m 0 c).arrAt 0 Cert.KernelIdeal.cfg0.N, fun c => (Cert.KernelIdeal.Gen.dats m 0 c).arrAt 1 Cert.KernelIdeal.cfg0.N,
      fun c => (Cert.KernelIdeal.Gen.dats m 0 c).arrAt 2 Cert.KernelIdeal.cfg0.N, fun c => (Cert.KernelIdeal.Gen.dats m 0 c).arrAt 3 Cert.KernelIdeal.cfg0.N,
      Cert.KernelIdeal.Value.run_blocks m ρ,
      (θ_run _ _ _).mono (fun _ h c => by
        obtain ⟨h0, h1, h2, h3, k⟩ := h c
        exact ⟨h0.trans (eq0 (hag c)), h1.trans (eq1 (hag c)), h2.trans (eq2 (hag c)), h3.trans (eq3 (hag c)), k⟩)
        (Cert.ReferenceIdeal.Value.run_blocks m' ρ')⟩⟩

end Cert.Proof

end
